-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 64, 64]⟩ (Layout.meshBlock [2, 4, 4] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 64, 64]⟩ (Layout.meshBlock [2, 4, 4] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x16x16 : Shape := ⟨3, ![16, 16, 16]⟩
abbrev S2x1x16x16 : Shape := ⟨4, ![2, 1, 16, 16]⟩
abbrev S2x16x1x16 : Shape := ⟨4, ![2, 16, 1, 16]⟩
abbrev S2x16x16x1 : Shape := ⟨4, ![2, 16, 16, 1]⟩
abbrev S6 : Shape := ⟨1, ![6]⟩
abbrev S_ : Shape := ⟨0, ![]⟩
abbrev S1x16x16 : Shape := ⟨3, ![1, 16, 16]⟩
abbrev S1x1x16x16 : Shape := ⟨4, ![1, 1, 16, 16]⟩
abbrev S16x1x16 : Shape := ⟨3, ![16, 1, 16]⟩
abbrev S1x16x1x16 : Shape := ⟨4, ![1, 16, 1, 16]⟩
abbrev S16x16x1 : Shape := ⟨3, ![16, 16, 1]⟩
abbrev S1x16x16x1 : Shape := ⟨4, ![1, 16, 16, 1]⟩
abbrev S1 : Shape := ⟨1, ![1]⟩
abbrev S15x16x16 : Shape := ⟨3, ![15, 16, 16]⟩
abbrev S16x15x16 : Shape := ⟨3, ![16, 15, 16]⟩
abbrev S16x16x15 : Shape := ⟨3, ![16, 16, 15]⟩

abbrev nBuf : Space → Nat
  | .hbm => 2
  | .vmem => 8
  | .smem => 0
  | _ => 0

abbrev bufTy : (tb : Table) → Fin (tcTables nBuf tb) → BufTy
  | .hbm, ⟨0, _⟩ => ⟨S16x16x16, .f32⟩
  | .hbm, ⟨1, _⟩ => ⟨S16x16x16, .f32⟩
  | .local _ .vmem, ⟨0, _⟩ => ⟨S16x16x16, .f32⟩
  | .local _ .vmem, ⟨1, _⟩ => ⟨S16x16x16, .f32⟩
  | .local _ .vmem, ⟨2, _⟩ => ⟨S2x1x16x16, .f32⟩
  | .local _ .vmem, ⟨3, _⟩ => ⟨S2x16x1x16, .f32⟩
  | .local _ .vmem, ⟨4, _⟩ => ⟨S2x16x16x1, .f32⟩
  | .local _ .vmem, ⟨5, _⟩ => ⟨S2x1x16x16, .f32⟩
  | .local _ .vmem, ⟨6, _⟩ => ⟨S2x16x1x16, .f32⟩
  | .local _ .vmem, ⟨7, _⟩ => ⟨S2x16x16x1, .f32⟩
  | _, _ => ⟨S16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v22 : BitVec 32 := Scalar.extui v9
  let c0_i32_12 : BitVec 32 := 0#32
  let v23 : BitVec 1 := Scalar.cmpi .ne v22 c0_i32_12
  v23

def k0_dev1 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 32 := Scalar.subi v2 c1_i32_2
  let c16_i32_133 : BitVec 32 := 16#32
  let v162 : BitVec 32 := Scalar.muli v10 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v166 : BitVec 32 := Scalar.muli v8 c1_i32_136
  let v167 : BitVec 32 := Scalar.addi v165 v166
  v167.toNat
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_3 : BitVec 32 := 1#32
  let v11 : BitVec 1 := Scalar.cmpi .slt v2 c1_i32_3
  let v24 : BitVec 32 := Scalar.extui v11
  let c0_i32_13 : BitVec 32 := 0#32
  let v25 : BitVec 1 := Scalar.cmpi .ne v24 c0_i32_13
  v25

def k0_dev2 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v12 : BitVec 32 := Scalar.addi v2 c1_i32_4
  let c16_i32_133 : BitVec 32 := 16#32
  let v162 : BitVec 32 := Scalar.muli v12 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v166 : BitVec 32 := Scalar.muli v8 c1_i32_136
  let v167 : BitVec 32 := Scalar.addi v165 v166
  v167.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_5 : BitVec 32 := 0#32
  let v13 : BitVec 1 := Scalar.cmpi .sgt v5 c0_i32_5
  let v26 : BitVec 32 := Scalar.extui v13
  let c0_i32_14 : BitVec 32 := 0#32
  let v27 : BitVec 1 := Scalar.cmpi .ne v26 c0_i32_14
  v27

def k0_dev3 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.subi v5 c1_i32_6
  let c4_i32_135 : BitVec 32 := 4#32
  let v164 : BitVec 32 := Scalar.muli v14 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v166 : BitVec 32 := Scalar.muli v8 c1_i32_136
  let v167 : BitVec 32 := Scalar.addi v165 v166
  v167.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v15 : BitVec 1 := Scalar.cmpi .slt v5 c3_i32
  let v28 : BitVec 32 := Scalar.extui v15
  let c0_i32_15 : BitVec 32 := 0#32
  let v29 : BitVec 1 := Scalar.cmpi .ne v28 c0_i32_15
  v29

def k0_dev4 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 32 := Scalar.addi v5 c1_i32_7
  let c4_i32_135 : BitVec 32 := 4#32
  let v164 : BitVec 32 := Scalar.muli v16 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v166 : BitVec 32 := Scalar.muli v8 c1_i32_136
  let v167 : BitVec 32 := Scalar.addi v165 v166
  v167.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v17 : BitVec 1 := Scalar.cmpi .sgt v8 c0_i32_8
  let v30 : BitVec 32 := Scalar.extui v17
  let c0_i32_16 : BitVec 32 := 0#32
  let v31 : BitVec 1 := Scalar.cmpi .ne v30 c0_i32_16
  v31

def k0_dev5 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.subi v8 c1_i32_9
  let c1_i32_136 : BitVec 32 := 1#32
  let v166 : BitVec 32 := Scalar.muli v18 c1_i32_136
  let v167 : BitVec 32 := Scalar.addi v165 v166
  v167.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_10 : BitVec 32 := 3#32
  let v19 : BitVec 1 := Scalar.cmpi .slt v8 c3_i32_10
  let v32 : BitVec 32 := Scalar.extui v19
  let c0_i32_17 : BitVec 32 := 0#32
  let v33 : BitVec 1 := Scalar.cmpi .ne v32 c0_i32_17
  v33

def k0_dev6 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_136 : BitVec 32 := 1#32
  let v166 : BitVec 32 := Scalar.muli v20 c1_i32_136
  let v167 : BitVec 32 := Scalar.addi v165 v166
  v167.toNat
def k0_cond13 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .sgt v2 c0_i32
  let v76 : BitVec 32 := Scalar.extui v9
  let c0_i32_65 : BitVec 32 := 0#32
  let v77 : BitVec 1 := Scalar.cmpi .ne v76 c0_i32_65
  v77

def k0_dev7 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_2 : BitVec 32 := 1#32
  let v10 : BitVec 32 := Scalar.subi v2 c1_i32_2
  let c16_i32_134 : BitVec 32 := 16#32
  let v162 : BitVec 32 := Scalar.muli v10 c16_i32_134
  let v163 : BitVec 32 := Scalar.addi c0_i32_135 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136 : BitVec 32 := 4#32
  let v164 : BitVec 32 := Scalar.muli v5 c4_i32_136
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v166 : BitVec 32 := Scalar.muli v8 c1_i32_137
  let v167 : BitVec 32 := Scalar.addi v165 v166
  v167.toNat
def k0_cond14 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_3 : BitVec 32 := 1#32
  let v11 : BitVec 1 := Scalar.cmpi .slt v2 c1_i32_3
  let v78 : BitVec 32 := Scalar.extui v11
  let c0_i32_68 : BitVec 32 := 0#32
  let v79 : BitVec 1 := Scalar.cmpi .ne v78 c0_i32_68
  v79

def k0_dev8 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_4 : BitVec 32 := 1#32
  let v12 : BitVec 32 := Scalar.addi v2 c1_i32_4
  let c16_i32_134 : BitVec 32 := 16#32
  let v162 : BitVec 32 := Scalar.muli v12 c16_i32_134
  let v163 : BitVec 32 := Scalar.addi c0_i32_135 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136 : BitVec 32 := 4#32
  let v164 : BitVec 32 := Scalar.muli v5 c4_i32_136
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v166 : BitVec 32 := Scalar.muli v8 c1_i32_137
  let v167 : BitVec 32 := Scalar.addi v165 v166
  v167.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_5 : BitVec 32 := 0#32
  let v13 : BitVec 1 := Scalar.cmpi .sgt v5 c0_i32_5
  let v80 : BitVec 32 := Scalar.extui v13
  let c0_i32_71 : BitVec 32 := 0#32
  let v81 : BitVec 1 := Scalar.cmpi .ne v80 c0_i32_71
  v81

def k0_dev9 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134 : BitVec 32 := 16#32
  let v162 : BitVec 32 := Scalar.muli v2 c16_i32_134
  let v163 : BitVec 32 := Scalar.addi c0_i32_135 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v14 : BitVec 32 := Scalar.subi v5 c1_i32_6
  let c4_i32_136 : BitVec 32 := 4#32
  let v164 : BitVec 32 := Scalar.muli v14 c4_i32_136
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v166 : BitVec 32 := Scalar.muli v8 c1_i32_137
  let v167 : BitVec 32 := Scalar.addi v165 v166
  v167.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v15 : BitVec 1 := Scalar.cmpi .slt v5 c3_i32
  let v82 : BitVec 32 := Scalar.extui v15
  let c0_i32_74 : BitVec 32 := 0#32
  let v83 : BitVec 1 := Scalar.cmpi .ne v82 c0_i32_74
  v83

def k0_dev10 (d0 : Dev nD) : Nat :=
  let c0_i32_135 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_134 : BitVec 32 := 16#32
  let v162 : BitVec 32 := Scalar.muli v2 c16_i32_134
  let v163 : BitVec 32 := Scalar.addi c0_i32_135 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v16 : BitVec 32 := Scalar.addi v5 c1_i32_7
  let c4_i32_136 : BitVec 32 := 4#32
  let v164 : BitVec 32 := Scalar.muli v16 c4_i32_136
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v166 : BitVec 32 := Scalar.muli v8 c1_i32_137
  let v167 : BitVec 32 := Scalar.addi v165 v166
  v167.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_8 : BitVec 32 := 0#32
  let v17 : BitVec 1 := Scalar.cmpi .sgt v8 c0_i32_8
  let v84 : BitVec 32 := Scalar.extui v17
  let c0_i32_77 : BitVec 32 := 0#32
  let v85 : BitVec 1 := Scalar.cmpi .ne v84 c0_i32_77
  v85

def k0_dev11 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v18 : BitVec 32 := Scalar.subi v8 c1_i32_9
  let c1_i32_136 : BitVec 32 := 1#32
  let v166 : BitVec 32 := Scalar.muli v18 c1_i32_136
  let v167 : BitVec 32 := Scalar.addi v165 v166
  v167.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_10 : BitVec 32 := 3#32
  let v19 : BitVec 1 := Scalar.cmpi .slt v8 c3_i32_10
  let v86 : BitVec 32 := Scalar.extui v19
  let c0_i32_80 : BitVec 32 := 0#32
  let v87 : BitVec 1 := Scalar.cmpi .ne v86 c0_i32_80
  v87

def k0_dev12 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v162 : BitVec 32 := Scalar.muli v2 c16_i32_133
  let v163 : BitVec 32 := Scalar.addi c0_i32_134 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v164 : BitVec 32 := Scalar.muli v5 c4_i32_135
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v20 : BitVec 32 := Scalar.addi v8 c1_i32_11
  let c1_i32_136 : BitVec 32 := 1#32
  let v166 : BitVec 32 := Scalar.muli v20 c1_i32_136
  let v167 : BitVec 32 := Scalar.addi v165 v166
  v167.toNat
abbrev stage0_0 : Fin 1 → Memref sig .tc .vmem S16x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x64x64 : Shape := ⟨3, ![32, 64, 64]⟩
abbrev S30x62x62 : Shape := ⟨3, ![30, 62, 62]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32x64x64, .f32⟩
  | .hbm, ⟨1, _⟩ => ⟨S30x62x62, .f32⟩
  | .hbm, ⟨2, _⟩ => ⟨S30x62x62, .f32⟩
  | .hbm, ⟨3, _⟩ => ⟨S30x62x62, .f32⟩
  | .hbm, ⟨4, _⟩ => ⟨S30x62x62, .f32⟩
  | .hbm, ⟨5, _⟩ => ⟨S30x62x62, .f32⟩
  | .hbm, ⟨6, _⟩ => ⟨S30x62x62, .f32⟩
  | .hbm, ⟨7, _⟩ => ⟨S30x62x62, .f32⟩
  | .hbm, ⟨8, _⟩ => ⟨S30x62x62, .f32⟩
  | .hbm, ⟨9, _⟩ => ⟨S30x62x62, .f32⟩
  | .hbm, ⟨10, _⟩ => ⟨S30x62x62, .f32⟩
  | .hbm, ⟨11, _⟩ => ⟨S30x62x62, .f32⟩
  | .hbm, ⟨12, _⟩ => ⟨S30x62x62, .f32⟩
  | .hbm, ⟨13, _⟩ => ⟨S_, .f32⟩
  | .hbm, ⟨14, _⟩ => ⟨S30x62x62, .f32⟩
  | .hbm, ⟨15, _⟩ => ⟨S30x62x62, .f32⟩
  | .hbm, ⟨16, _⟩ => ⟨S30x62x62, .f32⟩
  | .hbm, ⟨17, _⟩ => ⟨S_, .i32⟩
  | .hbm, ⟨18, _⟩ => ⟨S_, .f32⟩
  | .hbm, ⟨19, _⟩ => ⟨S32x64x64, .f32⟩
  | _, _ => ⟨S32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Proof.Mesh.lean ====
/-
The vocabulary of the halo-exchange proof: the 2 x 4 x 4 mesh and its directions, the boundary faces
of a block, the slots of the send and receive buffers, the semaphores and their cells.

A direction is a pair of an axis `a : Fin 3` and a side `s : Bool` (`false` the minus side, `true` the
plus side), so that everything which depends on a direction only through its axis (the shape of a
face, the buffers) does so by definition, and each fact is proved once for all six directions.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Halo

open Cert.KernelIdeal Cert.KernelIdeal.Gen
open Idealize.ShloMosaic Idealize.ShloMosaic.TcCoe
open Idealize.SL Idealize.SL.Sem

variable {F : FTy → Type} [FloatOps F]

/-! ## The mesh -/

/-- A direction: an axis and a side. -/
abbrev Dir : Type := Fin 3 × Bool

/-- The mesh's extents. -/
def ext : Fin 3 → ℕ := ![2, 4, 4]
/-- How far apart two devices next to each other along an axis are numbered. -/
def str : Fin 3 → ℕ := ![16, 4, 1]
/-- The coordinate of a device along an axis. -/
def co (c : Dev nD) (a : Fin 3) : ℕ := c.val / str a % ext a

/-- The device has a neighbour on side `s` of axis `a`. -/
def has (c : Dev nD) (a : Fin 3) (s : Bool) : Prop := if s then co c a + 1 < ext a else 0 < co c a

instance (c : Dev nD) (a : Fin 3) (s : Bool) : Decidable (has c a s) := by unfold has; infer_instance

/-- The neighbour on side `s` of axis `a` (meaningful where there is one). -/
def nb (c : Dev nD) (a : Fin 3) (s : Bool) : Dev nD :=
  if s then Fin.ofNat nD (c.val + str a) else Fin.ofNat nD (c.val - str a)

/-- The neighbour has a neighbour on the side back. -/
theorem has_nb : ∀ (c : Dev nD) (a : Fin 3) (s : Bool), has c a s → has (nb c a s) a (!s) := by decide +kernel
/-- The neighbour's neighbour on the side back is the device itself. -/
theorem nb_nb : ∀ (c : Dev nD) (a : Fin 3) (s : Bool), has c a s → nb (nb c a s) a (!s) = c := by decide +kernel

/-- The kernel's coordinate words. -/
def cw (c : Dev nD) : Fin 3 → BitVec 32
  | 0 => Scalar.remsi (Scalar.divsi (Dev.word c) 16#32) 2#32
  | 1 => Scalar.remsi (Scalar.divsi (Dev.word c) 4#32) 4#32
  | 2 => Scalar.remsi (Scalar.divsi (Dev.word c) 1#32) 4#32

/-- The kernel's test for a neighbour; -/
def hasB (c : Dev nD) : Fin 3 → Bool → BitVec 1
  | 0, false => Scalar.cmpi .sgt (cw c 0) 0#32
  | 0, true => Scalar.cmpi .slt (cw c 0) 1#32
  | 1, false => Scalar.cmpi .sgt (cw c 1) 0#32
  | 1, true => Scalar.cmpi .slt (cw c 1) 3#32
  | 2, false => Scalar.cmpi .sgt (cw c 2) 0#32
  | 2, true => Scalar.cmpi .slt (cw c 2) 3#32

/-- its test for a face of the domain. -/
def endB (c : Dev nD) : Fin 3 → Bool → BitVec 1
  | 0, false => Scalar.cmpi .eq (cw c 0) 0#32
  | 0, true => Scalar.cmpi .eq (cw c 0) 1#32
  | 1, false => Scalar.cmpi .eq (cw c 1) 0#32
  | 1, true => Scalar.cmpi .eq (cw c 1) 3#32
  | 2, false => Scalar.cmpi .eq (cw c 2) 0#32
  | 2, true => Scalar.cmpi .eq (cw c 2) 3#32

/-- A tested bit, as the kernel branches on it. -/
abbrev On (b : BitVec 1) : Prop := Scalar.cmpi .ne (Scalar.extui b) 0#32 = 1#1

/-- The kernel's test for a neighbour holds where there is one. -/
theorem on_hasB : ∀ (c : Dev nD) (a : Fin 3) (s : Bool), On (hasB c a s) ↔ has c a s := by decide +kernel
/-- The kernel's test for the end of the domain holds where there is no neighbour. -/
theorem on_endB : ∀ (c : Dev nD) (a : Fin 3) (s : Bool), On (endB c a s) ↔ ¬ has c a s := by decide +kernel

/-- The device number the kernel computes for a neighbour. -/
def devN (c : Dev nD) : Fin 3 → Bool → ℕ
  | 0, false => k0_dev1 c
  | 0, true => k0_dev2 c
  | 1, false => k0_dev3 c
  | 1, true => k0_dev4 c
  | 2, false => k0_dev5 c
  | 2, true => k0_dev6 c

/-- The number the kernel computes for a neighbour is the neighbour's number. -/
theorem devN_eq : ∀ (c : Dev nD) (a : Fin 3) (s : Bool), On (hasB c a s) → devN c a s = (nb c a s).val := by decide +kernel
/-- The number the kernel computes for a neighbour is that of a device. -/
theorem devN_lt (c : Dev nD) (a : Fin 3) (s : Bool) (h : On (hasB c a s)) : devN c a s < nD := by
  rw [devN_eq c a s h]; exact (nb c a s).isLt

/-- The neighbour as the kernel addresses it. -/
abbrev dev (c : Dev nD) (a : Fin 3) (s : Bool) (h : On (hasB c a s)) : Dev nD := ⟨devN c a s, devN_lt c a s h⟩

/-- The device the kernel addresses is the neighbour. -/
theorem dev_eq (c : Dev nD) (a : Fin 3) (s : Bool) (h : On (hasB c a s)) : dev c a s h = nb c a s := Fin.ext (devN_eq c a s h)

/-! ## Faces and slots -/

/-- The extents of a face across each axis. -/
def faceZ : Fin 3 → Fin 3 → ℕ | 0 => ![1, 16, 16] | 1 => ![16, 1, 16] | 2 => ![16, 16, 1]
/-- Where the face on a side of an axis begins in the block. -/
def faceO : Fin 3 → Bool → Fin 3 → ℕ
  | 0, false => ![0, 0, 0] | 0, true => ![15, 0, 0]
  | 1, false => ![0, 0, 0] | 1, true => ![0, 15, 0]
  | 2, false => ![0, 0, 0] | 2, true => ![0, 0, 15]
/-- The extents of an axis's buffer of two faces. -/
def bufZ : Fin 3 → Fin 4 → ℕ | 0 => ![2, 1, 16, 16] | 1 => ![2, 16, 1, 16] | 2 => ![2, 16, 16, 1]
/-- The extents of one slot of such a buffer. -/
def slotZ : Fin 3 → Fin 4 → ℕ | 0 => ![1, 1, 16, 16] | 1 => ![1, 16, 1, 16] | 2 => ![1, 16, 16, 1]
/-- Where the slot of a side begins in its buffer. -/
def slotO : Bool → Fin 4 → ℕ | false => ![0, 0, 0, 0] | true => ![1, 0, 0, 0]
/-- Where the semaphore of a direction is in its array of six. -/
def semO : Fin 3 → Bool → Fin 1 → ℕ
  | 0, false => ![0] | 0, true => ![1] | 1, false => ![2] | 1, true => ![3] | 2, false => ![4] | 2, true => ![5]

/-- A face of a block, a buffer of two faces, one slot of it. -/
abbrev faceS (a : Fin 3) : Shape := ⟨3, faceZ a⟩
/-- The shape of a buffer of two faces. -/
abbrev bufS (a : Fin 3) : Shape := ⟨4, bufZ a⟩
/-- The shape of one slot of it. -/
abbrev slotS (a : Fin 3) : Shape := ⟨4, slotZ a⟩

/-- A face lies in the block. -/
theorem face_inb : ∀ (a : Fin 3) (s : Bool) (i : Fin 3), faceO a s i + (faceS a).size i ≤ S16x16x16.size i := by decide +kernel
/-- A slot lies in its buffer. -/
theorem slot_inb : ∀ (a : Fin 3) (s : Bool) (i : Fin 4), slotO s i + (slotS a).size i ≤ (bufS a).size i := by decide +kernel
/-- A direction's semaphore lies in its array. -/
theorem sem_inb : ∀ (a : Fin 3) (s : Bool) (i : Fin 1), semO a s i + S1.size i ≤ S6.size i := by decide +kernel
/-- A face is not empty. -/
theorem face_pos : ∀ a : Fin 3, 0 < (faceS a).numel := by decide +kernel
/-- A slot is not empty. -/
theorem slot_pos : ∀ a : Fin 3, 0 < (slotS a).numel := by decide +kernel
/-- A face may be cast to its own shape. -/
theorem faceCasts : ∀ a : Fin 3, (faceS a).ShapeCasts (faceS a) := fun _ => rfl
/-- A face may be cast to a slot. -/
theorem slotCasts : ∀ a : Fin 3, (faceS a).ShapeCasts (slotS a) := by decide +kernel
/-- A slot may be cast to a face. -/
theorem unslotCasts : ∀ a : Fin 3, (slotS a).ShapeCasts (faceS a) := by decide +kernel
/-- A slot without its leading axis is a face. -/
theorem squeezes : ∀ a : Fin 3, (slotS a).Squeezes (faceS a)
  | 0 => Facts₀.squeezes_S1x1x16x16_S1x16x16
  | 1 => Facts₀.squeezes_S1x16x1x16_S16x1x16
  | 2 => Facts₀.squeezes_S1x16x16x1_S16x16x1

/-- The rectangle of a face in the block. -/
abbrev faceR (a : Fin 3) (s : Bool) : Rect S16x16x16 := Rect.unit (s := S16x16x16) (faceO a s) (faceS a).size (face_inb a s)
/-- The rectangle of a slot in its buffer. -/
abbrev slotR (a : Fin 3) (s : Bool) : Rect (bufS a) := Rect.unit (s := bufS a) (slotO s) (slotS a).size (slot_inb a s)

/-- The block staged in, the result staged out. -/
abbrev uM : Memref sig .tc .vmem S16x16x16 .f32 := Memref.whole cc0_stg0_0
/-- The result staged out. -/
abbrev oM : Memref sig .tc .vmem S16x16x16 .f32 := Memref.whole cc0_stg1_0

/-- The send buffer of an axis, the receive buffer of an axis. -/
def sbM : (a : Fin 3) → Memref sig .tc .vmem (bufS a) .f32
  | 0 => Memref.whole cc0_scratch0
  | 1 => Memref.whole cc0_scratch1
  | 2 => Memref.whole cc0_scratch2
/-- The receive buffer of an axis. -/
def rbM : (a : Fin 3) → Memref sig .tc .vmem (bufS a) .f32
  | 0 => Memref.whole cc0_scratch3
  | 1 => Memref.whole cc0_scratch4
  | 2 => Memref.whole cc0_scratch5

/-- The slot a face is sent from, the slot a face arrives in from side `s`. -/
abbrev srcM (a : Fin 3) (s : Bool) : Memref sig .tc .vmem (faceS a) .f32 :=
  ((sbM a).slice (slotR a s) (fun _ => rfl)).squeeze (faceS a) (squeezes a)
/-- The slot in which a face arrives from side `s`. -/
abbrev landM (a : Fin 3) (s : Bool) : Memref sig .tc .vmem (faceS a) .f32 :=
  ((rbM a).slice (slotR a s) (fun _ => rfl)).squeeze (faceS a) (squeezes a)

/-! ## Semaphores and cells -/

/-- The runtime's barrier semaphore, the send semaphores, the receive semaphores. -/
abbrev barQ : Sem sig := (SemArray.scalar (sig.barrier 0 rfl) : Sems sig S_).sem
/-- The send semaphore of a direction. -/
abbrev sendQ (a : Fin 3) (s : Bool) : DmaSem sig :=
  ((cc0_scratch6.slice (Rect.unit (s := S6) (semO a s) S1.size (sem_inb a s)) : DmaSems sig S1).squeeze S_ Facts₀.squeezes_S1_S_ : DmaSems sig S_).sem
/-- The receive semaphore of a direction. -/
abbrev recvQ (a : Fin 3) (s : Bool) : DmaSem sig :=
  ((cc0_scratch7.slice (Rect.unit (s := S6) (semO a s) S1.size (sem_inb a s)) : DmaSems sig S1).squeeze S_ Facts₀.squeezes_S1_S_ : DmaSems sig S_).sem

end Cert.Halo

end
-- ==== Proof.Program.lean ====
/-
The kernel's program as a sequence of steps, each stated once for all six directions, and the printed
body shown to be that sequence by unfolding.
-/
module

public import proofs.«01_k».proof.Proof.Mesh

@[expose] public section

noncomputable section

namespace Cert.Halo

open Cert.KernelIdeal Cert.KernelIdeal.Gen
open Idealize.ShloMosaic Idealize.ShloMosaic.TcCoe
open Idealize.SL Idealize.SL.Sem

variable {F : FTy → Type} [FloatOps F] {α β : Type}

/-- A program of the kernel. -/
abbrev PK (F : FTy → Type) (α : Type) : Type 1 := Prog (TpuEff nD τ sig (Elt F) Λ₀ .tc) α

/-- Run `t` where `b` holds, then go on with `k`. -/
def onlyIf (b : Prop) [Decidable b] (t : b → PK F PUnit) (k : PK F α) : PK F α :=
  if h : b then t h >>= fun _ => k else k

/-- Where the condition holds, the guarded program runs. -/
theorem onlyIf_pos {b : Prop} [Decidable b] (h : b) (t : b → PK F PUnit) (k : PK F α) : onlyIf b t k = (t h >>= fun _ => k) := dif_pos h
/-- Where the condition fails, the guarded program is skipped. -/
theorem onlyIf_neg {b : Prop} [Decidable b] (h : ¬ b) (t : b → PK F PUnit) (k : PK F α) : onlyIf b t k = k := dif_neg h

/-- What follows a guarded program may be moved into what it goes on with. -/
theorem onlyIf_bind (b : Prop) [Decidable b] (t : b → PK F PUnit) (k : PK F α) (f : α → PK F β) :
    (onlyIf b t k >>= f) = onlyIf b t (k >>= f) := by
  unfold onlyIf
  split
  · exact bind_assoc _ _ _
  · rfl

/-- A face loaded from a block; a slot loaded from, stored into a buffer. -/
abbrev loadFace (M : Memref sig .tc .vmem S16x16x16 .f32) (a : Fin 3) (s : Bool) : PK F (Vec F (faceS a) .f32) :=
  Prog.lift (.load M (faceR a s).toLoadRect (View.loadsAt_vmem (face_pos a)))
/-- A slot loaded from a buffer. -/
abbrev loadSlot (a : Fin 3) (M : Memref sig .tc .vmem (bufS a) .f32) (s : Bool) : PK F (Vec F (slotS a) .f32) :=
  Prog.lift (.load M (slotR a s).toLoadRect (View.loadsAt_vmem (slot_pos a)))
/-- A face stored into the result. -/
abbrev storeFace (a : Fin 3) (s : Bool) (v : Vec F (faceS a) .f32) : PK F PUnit :=
  Prog.lift (.store oM (faceR a s) v Finset.univ (View.stores_vmem_bits_univ (face_pos a) rfl) (.inl rfl))
/-- A slot stored into a send buffer. -/
abbrev storeSlot (a : Fin 3) (s : Bool) (v : Vec F (slotS a) .f32) : PK F PUnit :=
  Prog.lift (.store (sbM a) (slotR a s) v Finset.univ (View.stores_vmem_bits_univ (slot_pos a) rfl) (.inl rfl))

/-- Tell the neighbour this device is ready to be copied into; -/
def sigStep (c : Dev nD) (a : Fin 3) (s : Bool) (k : PK F α) : PK F α :=
  onlyIf (On (hasB c a s)) (fun h => semSignalWord (dev c a s h) barQ 1#32) k

/-- put a face of the block into its send slot; -/
def packStep (a : Fin 3) (s : Bool) (k : PK F α) : PK F α := do
  let v ← loadFace uM a s
  let _ ← loadSlot a (sbM a) s
  storeSlot a s (shapeCast (slotS a) (shapeCast (faceS a) v (faceCasts a)) (slotCasts a))
  k

/-- wait for a neighbour's word; -/
def waitStep (c : Dev nD) (a : Fin 3) (s : Bool) (k : PK F α) : PK F α :=
  onlyIf (On (hasB c a s)) (fun _ => semWaitWord barQ 1#32) k

/-- copy the face to the neighbour; -/
def sendStep (c : Dev nD) (a : Fin 3) (s : Bool) (k : PK F α) : PK F α :=
  onlyIf (On (hasB c a s)) (fun h =>
    Prog.lift (.enqueueDma (srcM a s) (.remote (Dev.tc (dev c a s h)) (landM a (!s)) (.dma (sendQ a s))) (.dma (recvQ a (!s)))
      ((View.wordExact_bits rfl).reshape _ _) ((View.wordExact_bits rfl).reshape _ _) ⟨⟨rfl, Or.inl rfl⟩, trivial⟩)) k

/-- the stencil on the block itself; -/
def coreStep (k : PK F α) : PK F α := do
  let v ← Prog.lift (.load uM (Rect.unit (s := S16x16x16) ![0, 0, 0] S16x16x16.size Facts₀.inb_S16x16x16_S16x16x16_0_0_0).toLoadRect (View.loadsAt_vmem Facts₀.h_S16x16x16))
  let _ ← Prog.lift (.load oM (Rect.unit (s := S16x16x16) ![0, 0, 0] S16x16x16.size Facts₀.inb_S16x16x16_S16x16x16_0_0_0).toLoadRect (View.loadsAt_vmem Facts₀.h_S16x16x16))
  Prog.lift (.store oM (Rect.unit (s := S16x16x16) ![0, 0, 0] S16x16x16.size Facts₀.inb_S16x16x16_S16x16x16_0_0_0) (k0_pay10 v) Finset.univ (View.stores_vmem_bits_univ Facts₀.h_S16x16x16 rfl) (.inl rfl))
  k

/-- a face of the result, the face that arrived added. -/
def addFace (a : Fin 3) (v : Vec F (faceS a) .f32) (w : Vec F (slotS a) .f32) : Vec F (faceS a) .f32 :=
  addf (shapeCast (faceS a) v (faceCasts a)) (shapeCast (faceS a) w (unslotCasts a))

/-- wait for the face from side `s` and add it; -/
def recvStep (c : Dev nD) (a : Fin 3) (s : Bool) (k : PK F α) : PK F α :=
  onlyIf (On (hasB c a s)) (fun _ => do
    Prog.lift (.waitDma2 (recvQ a s) (srcM a s) (landM a s) ((View.wordExact_bits rfl).reshape _ _) ((View.wordExact_bits rfl).reshape _ _))
    let v ← loadFace oM a s
    let w ← loadSlot a (rbM a) s
    let _ ← loadFace oM a s
    storeFace a s (addFace a v w)) k

/-- A face of zeros. -/
def zeroFace (a : Fin 3) : Vec F (faceS a) .f32 := broadcast (faceS a) (Scalar.ofBits .f32 0x00000000#32)

/-- zero a face of the domain; -/
def zeroStep (c : Dev nD) (a : Fin 3) (s : Bool) (k : PK F α) : PK F α :=
  onlyIf (On (endB c a s)) (fun _ => do
    let _ ← loadFace oM a s
    storeFace a s (zeroFace a)) k

/-- wait until the face has left. -/
def doneStep (c : Dev nD) (a : Fin 3) (s : Bool) (k : PK F α) : PK F α :=
  onlyIf (On (hasB c a s)) (fun _ =>
    Prog.lift (.waitDma2 (sendQ a s) (landM a (!s)) (srcM a s) ((View.wordExact_bits rfl).reshape _ _) ((View.wordExact_bits rfl).reshape _ _))) k

/-! ## The printed parts -/

/-- A part of the printed body, on the buffers the launch gives it. -/
abbrev onArgs {T : Sort*} (f : (arg0 : Memref sig .tc .vmem S16x16x16 .f32) → arg0.IsWhole → (arg1 : Memref sig .tc .vmem S16x16x16 .f32) → arg1.IsWhole →
    (arg2 : Memref sig .tc .vmem S2x1x16x16 .f32) → arg2.IsWhole → (arg3 : Memref sig .tc .vmem S2x16x1x16 .f32) → arg3.IsWhole →
    (arg4 : Memref sig .tc .vmem S2x16x16x1 .f32) → arg4.IsWhole → (arg5 : Memref sig .tc .vmem S2x1x16x16 .f32) → arg5.IsWhole →
    (arg6 : Memref sig .tc .vmem S2x16x1x16 .f32) → arg6.IsWhole → (arg7 : Memref sig .tc .vmem S2x16x16x1 .f32) → arg7.IsWhole →
    DmaSems sig S6 → DmaSems sig S6 → T) : T :=
  f (win0_0.stage 0) (Facts₀.hstage0_0 0) (win0_1.stage 0) (Facts₀.hstage0_1 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7

set_option maxRecDepth 65536

/-- The barrier semaphore as the printed parts hand it on. -/
abbrev barA : Sems sig S_ := SemArray.scalar (sig.barrier 0 rfl)

/-- The printed first part: the device's place, and the signals along the first two axes. -/
theorem part1_eq : onArgs (k0_part1 (F := F)) = (Prog.lift .deviceId >>= fun c =>
    sigStep c 0 false (sigStep c 0 true (sigStep c 1 false (sigStep c 1 true (pure
      ⟨c, cw c 0, cw c 1, cw c 2, hasB c 0 false, Scalar.subi (cw c 0) 1#32, hasB c 0 true, Scalar.addi (cw c 0) 1#32,
        hasB c 1 false, Scalar.subi (cw c 1) 1#32, hasB c 1 true, Scalar.addi (cw c 1) 1#32,
        hasB c 2 false, Scalar.subi (cw c 2) 1#32, hasB c 2 true, Scalar.addi (cw c 2) 1#32, barA⟩))))) := rfl

/-- The printed second part: the signals along the last axis, and the faces of the first two axes packed. -/
theorem part2_eq (c : Dev nD) (v2 v5 v18 v20 : BitVec 32) (v19 : BitVec 1) :
    onArgs (k0_part2 (F := F)) c v2 v5 v18 v19 v20 barA
      = sigStep c 2 false (sigStep c 2 true (packStep 0 false (packStep 0 true (packStep 1 false (packStep 1 true (pure ⟨⟩)))))) := rfl

/-- The printed third part: the last two faces packed, the barrier waits, and the first two copies started. -/
theorem part3_eq (c : Dev nD) (v5 v8 v10 v12 : BitVec 32) :
    onArgs (k0_part3 (F := F)) c v5 v8 (hasB c 0 false) v10 (hasB c 0 true) v12 (hasB c 1 false) (hasB c 1 true) (hasB c 2 false) (hasB c 2 true) barA
      = packStep 2 false (packStep 2 true (waitStep c 0 false (waitStep c 0 true (waitStep c 1 false (waitStep c 1 true (waitStep c 2 false (waitStep c 2 true
        (sendStep c 0 false (sendStep c 0 true (pure (Scalar.extui (hasB c 1 false)))))))))))) := rfl

/-- The printed fourth part: the other four copies started, and the stencil on the block. -/
theorem part4_eq (c : Dev nD) (v2 v5 v8 v14 v16 v18 v20 v80 : BitVec 32) (v15 v17 v19 : BitVec 1) :
    onArgs (k0_part4 (F := F)) c v2 v5 v8 v14 v15 v16 v17 v18 v19 v20 v80
      = sendStep c 1 false (sendStep c 1 true (sendStep c 2 false (sendStep c 2 true (coreStep (pure ⟨zeroFace 0, zeroFace 1, zeroFace 2⟩))))) := rfl

/-- The printed fifth part: the faces received and added, and the first three faces of the domain zeroed. -/
theorem part5_eq (c : Dev nD) :
    onArgs (k0_part5 (F := F)) (cw c 0) (cw c 1) (cw c 2) (zeroFace 0) (zeroFace 1)
      = recvStep c 0 false (recvStep c 0 true (recvStep c 1 false (recvStep c 1 true (recvStep c 2 false (recvStep c 2 true
        (zeroStep c 0 false (zeroStep c 0 true (zeroStep c 1 false (pure ⟨endB c 1 true, endB c 2 false, endB c 2 true⟩))))))))) := rfl

/-! ## The whole body -/

section Bind
variable (c : Dev nD) (a : Fin 3) (s : Bool) (k : PK F α) (f : α → PK F β)

/-- What follows a signal may be moved into what it goes on with; -/
theorem sigStep_bind : (sigStep c a s k >>= f) = sigStep c a s (k >>= f) := onlyIf_bind _ _ _ _
/-- so for a barrier wait, -/
theorem waitStep_bind : (waitStep c a s k >>= f) = waitStep c a s (k >>= f) := onlyIf_bind _ _ _ _
/-- a copy started, -/
theorem sendStep_bind : (sendStep c a s k >>= f) = sendStep c a s (k >>= f) := onlyIf_bind _ _ _ _
/-- a face received, -/
theorem recvStep_bind : (recvStep c a s k >>= f) = recvStep c a s (k >>= f) := onlyIf_bind _ _ _ _
/-- a face zeroed, -/
theorem zeroStep_bind : (zeroStep c a s k >>= f) = zeroStep c a s (k >>= f) := onlyIf_bind _ _ _ _
/-- a face packed, -/
theorem packStep_bind : (packStep a s k >>= f) = packStep a s (k >>= f) := rfl
/-- and the stencil on the block. -/
theorem coreStep_bind : (coreStep k >>= f) = coreStep (k >>= f) := rfl

end Bind

/-- Everything the body does once it knows its device. -/
def steps (c : Dev nD) : PK F PUnit :=
  sigStep c 0 false <| sigStep c 0 true <| sigStep c 1 false <| sigStep c 1 true <| sigStep c 2 false <| sigStep c 2 true <|
  packStep 0 false <| packStep 0 true <| packStep 1 false <| packStep 1 true <| packStep 2 false <| packStep 2 true <|
  waitStep c 0 false <| waitStep c 0 true <| waitStep c 1 false <| waitStep c 1 true <| waitStep c 2 false <| waitStep c 2 true <|
  sendStep c 0 false <| sendStep c 0 true <| sendStep c 1 false <| sendStep c 1 true <| sendStep c 2 false <| sendStep c 2 true <|
  coreStep <|
  recvStep c 0 false <| recvStep c 0 true <| recvStep c 1 false <| recvStep c 1 true <| recvStep c 2 false <| recvStep c 2 true <|
  zeroStep c 0 false <| zeroStep c 0 true <| zeroStep c 1 false <| zeroStep c 1 true <| zeroStep c 2 false <| zeroStep c 2 true <|
  doneStep c 0 false <| doneStep c 0 true <| doneStep c 1 false <| doneStep c 1 true <| doneStep c 2 false <| doneStep c 2 true <|
  pure ⟨⟩

/-- The printed body is the steps. -/
theorem body_eq : onArgs (cc0_body (F := F)) = (Prog.lift .deviceId >>= fun c => steps c) := by
  have h1 := part1_eq (F := F)
  have h2 := part2_eq (F := F)
  have h3 := part3_eq (F := F)
  have h4 := part4_eq (F := F)
  have h5 := part5_eq (F := F)
  unfold onArgs at h1 h2 h3 h4 h5 ⊢
  unfold cc0_body
  rw [h1, bind_assoc]
  congr 1
  funext c
  simp only [sigStep_bind, pure_bind]
  rw [h2]
  simp only [sigStep_bind, packStep_bind, pure_bind]
  rw [h3]
  simp only [waitStep_bind, packStep_bind, sendStep_bind, pure_bind]
  rw [h4]
  simp only [sendStep_bind, coreStep_bind, pure_bind]
  rw [h5]
  simp only [recvStep_bind, zeroStep_bind, pure_bind]
  rfl

end Cert.Halo

end
-- ==== Proof.Protocol.lean ====
/-
The protocol of the halo exchange. Between two devices next to each other along an axis there are a
ready signal and a copy each way; a device counts ready signals on one barrier semaphore, and has one
send and one receive semaphore per direction.

Each semaphore of each device is a cell with one round. A barrier cell has a duty for each neighbour,
named by the direction that neighbour lies in; what the neighbour hands over with its signal is the
slot the copy to it will land in. A receive cell hands over the slot with the neighbour's face in it,
a send cell the slot the copy was read from.
-/
module

public import proofs.«01_k».proof.Proof.Program

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The algebra of the exchange: rounds of duties on the cells, a duty named by a direction. -/
abbrev UB : Type := URounds (GSem nD τ sig) Dir
/-- The whole algebra: the launch's half and the exchange's. -/
abbrev UU : Type := UR sig nD τ × UB

local notation "𝕄" => MT nD τ sig Unit (Elt F) ℕ UU ℕ

/-- The launch's half of the algebra and the exchange's. -/
abbrev EP : Emb (UR sig nD τ) (MT nD τ sig Unit (Elt F) ℕ UU ℕ) := embL
/-- The exchange's half. -/
abbrev ER : Emb UB (MT nD τ sig Unit (Elt F) ℕ UU ℕ) := embR

/-! ## The cells -/

/-- Which semaphore of a device: its barrier's, or one of a direction (`false` send, `true` receive). -/
abbrev Kind : Type := Option (Bool × Dir)

/-- The semaphore of that kind. -/
def qsem : Kind → SemLoc sig
  | none => .reg barQ
  | some (false, d) => .dma (sendQ d.1 d.2)
  | some (true, d) => .dma (recvQ d.1 d.2)

/-- Different kinds have different semaphores. -/
theorem qsem_inj : Function.Injective qsem := by decide +kernel

/-- A device's semaphore of that kind. -/
abbrev qcell (c : Dev nD) (k : Kind) : GSem nD τ sig := ((c : Thread nD τ), qsem k)

/-- A device's barrier cell. -/
abbrev barCell (c : Dev nD) : GSem nD τ sig := qcell c none
/-- A device's send cell of a direction. -/
abbrev sendCell (c : Dev nD) (a : Fin 3) (s : Bool) : GSem nD τ sig := qcell c (some (false, a, s))
/-- A device's receive cell of a direction. -/
abbrev recvCell (c : Dev nD) (a : Fin 3) (s : Bool) : GSem nD τ sig := qcell c (some (true, a, s))

open Classical in
/-- Which kind a semaphore is, if any. -/
def kindOf (sm : SemLoc sig) : Option Kind := if h : ∃ k, qsem k = sm then some h.choose else none

/-- The kind of a kind's semaphore is that kind. -/
theorem kindOf_qsem (k : Kind) : kindOf (qsem k) = some k := by
  unfold kindOf
  have h : ∃ k', qsem k' = qsem k := ⟨k, rfl⟩
  rw [dif_pos h]
  exact congrArg some (qsem_inj h.choose_spec)

/-! ## Views of the slots -/

/-- What a copy of a face of axis `a` credits. -/
def credit (a : Fin 3) : ℕ := (landM a false).view.dmaCredit

/-- A copy into a landing slot credits the units of its axis. -/
theorem credit_land : ∀ (a : Fin 3) (s : Bool), (landM a s).view.dmaCredit = credit a := by
  rintro ⟨_ | _ | _ | n, h⟩ s <;> first | rfl | omega
/-- A copy out of a send slot credits the units of its axis. -/
theorem credit_src : ∀ (a : Fin 3) (s : Bool), (srcM a s).view.dmaCredit = credit a := by
  rintro ⟨_ | _ | _ | n, h⟩ s <;> first | rfl | omega
/-- A copy credits something. -/
theorem credit_pos (a : Fin 3) : 0 < credit a := View.dmaCredit_pos _ (face_pos a)

variable (u : Dev nD → Vec F S16x16x16 .f32)

/-- A face of a device's block. -/
def faceOf (c : Dev nD) (a : Fin 3) (s : Bool) : Vec F (faceS a) .f32 := uM.view.readAt (Elt F) (faceR a s).toLoadRect (u c)

/-- Device `c` owns its slot for faces from side `s`, with contents `f`; -/
def landPts (c : Dev nD) (a : Fin 3) (s : Bool) (f : Buf (Elt F) ((landM a s).view.loc (c : Thread nD τ))) : sProp 𝕄 :=
  (landM a s).view.loc (c : Thread nD τ) ↦[(landM a s).view.set]{fullShare} f
/-- its slot for the face it sends to side `s`. -/
def srcPts (c : Dev nD) (a : Fin 3) (s : Bool) (f : Buf (Elt F) ((srcM a s).view.loc (c : Thread nD τ))) : sProp 𝕄 :=
  (srcM a s).view.loc (c : Thread nD τ) ↦[(srcM a s).view.set]{fullShare} f

/-- The landing slot, whatever is in it; the landing slot with the neighbour's face in it; -/
def landAny (c : Dev nD) (a : Fin 3) (s : Bool) : sProp 𝕄 := iprop(∃ f, landPts c a s f)
/-- The landing slot with the neighbour's face in it. -/
def landFace (c : Dev nD) (a : Fin 3) (s : Bool) : sProp 𝕄 :=
  iprop(∃ f, ⌜(landM a s).view.read (Elt F) f = faceOf u (nb c a s) a (!s)⌝ ∗ landPts c a s f)
/-- the send slot, whatever is in it; the send slot with the device's face in it. -/
def srcAny (c : Dev nD) (a : Fin 3) (s : Bool) : sProp 𝕄 := iprop(∃ f, srcPts c a s f)
/-- The send slot with the device's face in it. -/
def srcFace (c : Dev nD) (a : Fin 3) (s : Bool) : sProp 𝕄 :=
  iprop(∃ f, ⌜(srcM a s).view.read (Elt F) f = faceOf u c a s⌝ ∗ srcPts c a s f)

/-! ## The schedule -/

/-- The one duty of a send or receive cell. -/
abbrev d₀ : Dir := (0, false)

/-- The neighbours of a device, as directions. -/
def dirs (c : Dev nD) : Finset Dir := Finset.univ.filter fun d => has c d.1 d.2

/-- The duties of a device's cell; what each hands over; how much it credits. -/
def dutiesOf (c : Dev nD) : Kind → Finset Dir
  | none => dirs c
  | some (_, d) => if has c d.1 d.2 then {d₀} else ∅
/-- What a neighbour's signal hands over: that neighbour's landing slot, into which this device will copy. -/
def barPay (c : Dev nD) (d : Dir) : sProp 𝕄 := landAny (nb c d.1 d.2) d.1 (!d.2)
/-- What each duty on a device's cell hands over. -/
def payOf (c : Dev nD) : Kind → Dir → sProp 𝕄
  | none, d => barPay c d
  | some (false, d), _ => srcAny c d.1 d.2
  | some (true, d), _ => landFace u c d.1 d.2
/-- How much a duty on a cell of each kind credits. -/
def amountOf : Kind → ℕ
  | none => 1
  | some (_, d) => credit d.1

/-- Every duty credits something. -/
theorem amountOf_pos : ∀ k, 0 < amountOf k
  | none => Nat.one_pos
  | some (_, d) => credit_pos d.1

instance payOf_storable (c : Dev nD) (k : Kind) (d : Dir) : BI.Storable (upEmb : UEmb _ 𝕄) (payOf u c k d) := by
  rcases k with _ | ⟨_ | _, e⟩ <;> unfold payOf <;>
    first
      | (unfold barPay landAny landPts; infer_instance)
      | (unfold srcAny srcPts; infer_instance)
      | (unfold landFace landPts; infer_instance)

/-- The rounds: every cell of a device has round 0 only. -/
def haloRd : Rounds.Schedule (GSem nD τ sig) Dir 𝕄 where
  duties g r := if r = 0 ∧ g.1.2 = .tc then (kindOf g.2).elim ∅ (dutiesOf g.1.1) else ∅
  unitless _ := False
  amount g _ _ := (kindOf g.2).elim 1 amountOf
  payload g _ d := (kindOf g.2).elim iprop(emp) (payOf u g.1.1 · d)
  amount_pos g _ _ _ := by
    cases kindOf g.2 with
    | none => exact Nat.one_pos
    | some k => exact amountOf_pos k

instance haloRd_storable (g : GSem nD τ sig) (r : ℕ) (d : Dir) : BI.Storable (upEmb : UEmb _ 𝕄) ((haloRd u).payload g r d) := by
  show BI.Storable upEmb ((kindOf g.2).elim iprop(emp) (payOf u g.1.1 · d))
  cases kindOf g.2 <;> dsimp only [Option.elim] <;> infer_instance

section Sched
variable (c : Dev nD) (k : Kind)

omit [FloatOps F] in
/-- The duties of a cell in its only round. -/
theorem duties_eq : (haloRd u).duties (qcell c k) 0 = dutiesOf c k := by
  dsimp only [haloRd]; rw [if_pos ⟨rfl, rfl⟩, kindOf_qsem]; rfl
omit [FloatOps F] in
/-- A barrier cell has a duty for a direction exactly if there is a neighbour in it. -/
theorem mem_bar (d : Dir) : d ∈ (haloRd u).duties (barCell c) 0 ↔ has c d.1 d.2 := by
  rw [duties_eq]; exact Finset.mem_filter.trans (and_iff_right (Finset.mem_univ _))
omit [FloatOps F] in
/-- A send or receive cell towards a neighbour has its one duty. -/
theorem mem_dma (b : Bool) (a : Fin 3) (s : Bool) (h : has c a s) : d₀ ∈ (haloRd u).duties (qcell c (some (b, a, s))) 0 := by
  rw [duties_eq]; unfold dutiesOf; dsimp only; rw [if_pos h]; exact Finset.mem_singleton_self _
omit [FloatOps F] in
/-- No cell has duties after the first round. -/
theorem duties_later (g : GSem nD τ sig) : ∀ r, 1 ≤ r → (haloRd u).duties g r = ∅ := fun r hr => if_neg fun h => by omega
omit [FloatOps F] in
/-- How much a duty on a cell credits. -/
theorem amount_eq (r : ℕ) (d : Dir) : (haloRd u).amount (qcell c k) r d = amountOf k := by dsimp only [haloRd]; rw [kindOf_qsem]; rfl
omit [FloatOps F] in
/-- What a duty on a cell hands over. -/
theorem payload_eq (r : ℕ) (d : Dir) : (haloRd u).payload (qcell c k) r d = payOf u c k d := by dsimp only [haloRd]; rw [kindOf_qsem]; rfl
omit [FloatOps F] in
/-- The units of a cell's round: the number of its duties times the amount of each. -/
theorem expect_eq : (haloRd u).expect (qcell c k) 0 = (dutiesOf c k).card * amountOf k := by
  unfold Schedule.expect Schedule.amountOf
  rw [duties_eq, Finset.sum_congr rfl fun d _ => amount_eq u c k 0 d, Finset.sum_const, smul_eq_mul]

omit [FloatOps F] in
/-- The units of a send or receive cell's round are those of one copy. -/
theorem expect_dma (b : Bool) (a : Fin 3) (s : Bool) (h : has c a s) : (haloRd u).expect (qcell c (some (b, a, s))) 0 = credit a := by
  rw [expect_eq]; unfold dutiesOf; dsimp only; rw [if_pos h, Finset.card_singleton, Nat.one_mul]; rfl
omit [FloatOps F] in
/-- The units of a barrier cell's round are as many as the neighbours. -/
theorem expect_bar : (haloRd u).expect (barCell c) 0 = (dirs c).card := by
  rw [expect_eq]; exact Nat.mul_one _

/-- A send or receive cell towards no neighbour has no duty at all. -/
theorem duties_none (b : Bool) (d : Dir) (h : ¬ has c d.1 d.2) : ∀ r, 0 ≤ r → (haloRd u).duties (qcell c (some (b, d))) r = ∅ := fun r _ => by
  rcases Nat.eq_zero_or_pos r with rfl | hr
  · rw [duties_eq]; exact if_neg h
  · exact duties_later u _ r hr

end Sched

/-! ## What a device owes, and the order of waiting -/

/-- The signal (`false`) or copy (`true`) a device owes towards a direction. -/
def due (c : Dev nD) (x : Bool × Dir) : CellTallies nD τ sig Unit :=
  if has c x.2.1 x.2.2 then
    (if x.1 then tallyAt (recvCell (nb c x.2.1 x.2.2) x.2.1 (!x.2.2)) () (credit x.2.1) else tallyAt (barCell (nb c x.2.1 x.2.2)) () 1)
  else 0

/-- All a device owes that has a list of signals and copies still to make, the next one first. -/
def owed (c : Dev nD) : List (Bool × Dir) → CellTallies nD τ sig Unit
  | [] => 0
  | x :: l => owed c l + due c x

/-- The directions, in the order the kernel goes through them. -/
abbrev order : List Dir := [(0, false), (0, true), (1, false), (1, true), (2, false), (2, true)]
/-- The copies a device makes, and everything it owes at the start. -/
abbrev copies : List (Bool × Dir) := [(true, 0, false), (true, 0, true), (true, 1, false), (true, 1, true), (true, 2, false), (true, 2, true)]
/-- All that a device owes at the start: its signals, then its copies. -/
abbrev signals : List (Bool × Dir) :=
  [(false, 0, false), (false, 0, true), (false, 1, false), (false, 1, true), (false, 2, false), (false, 2, true)] ++ copies

/-- A cell somebody owes something on is a neighbour's barrier or receive cell, and on the list. -/
theorem due_pos {c : Dev nD} {x : Bool × Dir} {g : GSem nD τ sig} {i : Unit} (h : 0 < due c x g i) :
    g = (if x.1 then recvCell (nb c x.2.1 x.2.2) x.2.1 (!x.2.2) else barCell (nb c x.2.1 x.2.2)) := by
  unfold due at h
  split at h
  · by_contra hn
    split at h <;> rename_i hx <;> rw [tallyAt_apply, if_neg fun h' => hn (by simp only [hx]; exact h'.1)] at h <;> exact Nat.lt_irrefl 0 h
  · exact absurd h (Nat.lt_irrefl 0)

/-- A cell on which a list owes something is that of one of the list's entries. -/
theorem owed_pos {c : Dev nD} {g : GSem nD τ sig} {i : Unit} : ∀ {l : List (Bool × Dir)}, 0 < owed c l g i →
    ∃ x ∈ l, g = (if x.1 then recvCell (nb c x.2.1 x.2.2) x.2.1 (!x.2.2) else barCell (nb c x.2.1 x.2.2))
  | [], h => absurd h (Nat.lt_irrefl 0)
  | x :: l, h => by
    unfold owed at h
    rw [Pi.add_apply, Finsupp.add_apply] at h
    rcases Nat.eq_zero_or_pos (due c x g i) with h0 | hx
    · rw [h0] at h
      obtain ⟨y, hy, hg⟩ := owed_pos (l := l) h
      exact ⟨y, List.mem_cons_of_mem _ hy, hg⟩
    · exact ⟨x, List.mem_cons_self, due_pos hx⟩

/-- Only the cores wait. -/
def L (g : GSem nD τ sig) : Finset Unit := if g.1.2 = .tc then {()} else ∅
/-- Barrier cells come first, then receive cells; the rest nobody else has to wait for. -/
def lvK : Kind → ℕ
  | none => 1
  | some (false, _) => 0
  | some (true, _) => 2
/-- The level of a semaphore, by its kind. -/
def lv (g : GSem nD τ sig) (_ : Unit) : ℕ := (kindOf g.2).elim 0 lvK

/-- Every cell of a core has a level. -/
theorem L_tc (c : Dev nD) (sm : SemLoc sig) : L ((c : Thread nD τ), sm) = {()} := if_pos rfl
/-- No other cell has one. -/
theorem L_of_ne (g : GSem nD τ sig) (h : g.1.2 ≠ .tc) : L g = ∅ := if_neg h
/-- The level of a device's cell is that of its kind. -/
theorem lv_qcell (c : Dev nD) (k : Kind) (i : Unit) : lv (qcell c k) i = lvK k := by unfold lv; rw [kindOf_qsem]; rfl

omit [FloatOps F] in
/-- A wait on a semaphore below everything still owed is allowed. -/
theorem mayWait_of_lt (c : Dev nD) (sm : SemLoc sig) (l : List (Bool × Dir)) (n : ℕ) (hn : lv ((c : Thread nD τ), sm) () ≤ n)
    (hl : ∀ x ∈ l, n < if x.1 then 2 else 1) : (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g i hg => by
      obtain ⟨x, _, rfl⟩ := owed_pos hg
      cases i
      split <;> exact Finset.mem_singleton_self _)
    (fun p hp => by rw [Finset.mem_singleton.mp hp]; exact hn)
    (fun g i hg => by
      obtain ⟨x, hx, rfl⟩ := owed_pos hg
      have := hl x hx
      split at this <;> rename_i h
      · rw [if_pos h, lv_qcell]; exact this
      · rw [if_neg h, lv_qcell]; exact this)

/-! ## The state of a device -/

/-- Every cell's invariant, under the names `K`, and that its round has begun. -/
def records (K : Dev nD × Kind → ℕ) : sProp 𝕄 :=
  iprop((bigSep Finset.univ fun ck : Dev nD × Kind => cellInv ER (haloRd u) (K ck) (qcell ck.1 ck.2))
    ∗ bigSep Finset.univ fun ck : Dev nD × Kind => reached ER (qcell ck.1 ck.2) 0)

instance records_persistent (K : Dev nD × Kind → ℕ) : BI.Persistent (records u K) := by unfold records; infer_instance

omit [FloatOps F] in
/-- The records of one cell. -/
theorem records_at (K : Dev nD × Kind → ℕ) (c : Dev nD) (k : Kind) :
    records u K ⊢ iprop(cellInv ER (haloRd u) (K (c, k)) (qcell c k) ∗ reached ER (qcell c k) 0) := by
  unfold records
  exact BIClass.sep_mono (bigSep_elim (Finset.mem_univ (c, k))) (bigSep_elim (Finset.mem_univ (c, k)))

/-- The tokens for the three things a device does towards a direction: signal, copy out, copy in. -/
def tokB (c : Dev nD) (a : Fin 3) (s : Bool) : sProp 𝕄 := dutyTok ER (barCell (nb c a s)) 0 (a, !s)
/-- The token with which the device's copy towards a direction pays its own send cell. -/
def tokS (c : Dev nD) (a : Fin 3) (s : Bool) : sProp 𝕄 := dutyTok ER (sendCell c a s) 0 d₀
/-- The token with which that copy pays the neighbour's receive cell. -/
def tokR (c : Dev nD) (a : Fin 3) (s : Bool) : sProp 𝕄 := dutyTok ER (recvCell (nb c a s) a (!s)) 0 d₀
/-- What a device may take from its send or receive cell of a direction, and where it stands there. -/
def credS (c : Dev nD) (a : Fin 3) (s : Bool) : sProp 𝕄 := cred (tallyAt (sendCell c a s) () (credit a))
/-- What a device may take from its receive cell of a direction. -/
def credR (c : Dev nD) (a : Fin 3) (s : Bool) : sProp 𝕄 := cred (tallyAt (recvCell c a s) () (credit a))
/-- A device stands at the start of its send cell's round. -/
def posS (c : Dev nD) (a : Fin 3) (s : Bool) : sProp 𝕄 := atPos ER (sendCell c a s) 0 ∅ 0
/-- A device stands at the start of its receive cell's round. -/
def posR (c : Dev nD) (a : Fin 3) (s : Bool) : sProp 𝕄 := atPos ER (recvCell c a s) 0 ∅ 0

/-- What a device holds for a direction at the start; -/
def D0 (c : Dev nD) (a : Fin 3) (s : Bool) : sProp 𝕄 :=
  iprop((if has c a s then iprop(tokB c a s ∗ tokS c a s ∗ tokR c a s ∗ credR c a s) else iprop(emp))
    ∗ landAny c a s ∗ srcAny c a s ∗ posS c a s ∗ posR c a s)
/-- once it has signalled; -/
def D1 (c : Dev nD) (a : Fin 3) (s : Bool) : sProp 𝕄 :=
  iprop((if has c a s then iprop(tokS c a s ∗ tokR c a s ∗ credR c a s) else landAny c a s)
    ∗ srcAny c a s ∗ posS c a s ∗ posR c a s)
/-- once the face is in its slot; -/
def D2 (c : Dev nD) (a : Fin 3) (s : Bool) : sProp 𝕄 :=
  iprop((if has c a s then iprop(tokS c a s ∗ tokR c a s ∗ credR c a s) else landAny c a s)
    ∗ srcFace u c a s ∗ posS c a s ∗ posR c a s)
/-- once every neighbour has signalled; -/
def D3 (c : Dev nD) (a : Fin 3) (s : Bool) : sProp 𝕄 :=
  iprop((if has c a s then landAny (nb c a s) a (!s) else iprop(emp)) ∗ D2 u c a s)
/-- once the copy is on its way; -/
def D4 (c : Dev nD) (a : Fin 3) (s : Bool) : sProp 𝕄 :=
  iprop((if has c a s then iprop(credS c a s ∗ credR c a s) else iprop(landAny c a s ∗ srcAny c a s))
    ∗ posS c a s ∗ posR c a s)
/-- once the neighbour's face has been added; -/
def D5 (c : Dev nD) (a : Fin 3) (s : Bool) : sProp 𝕄 :=
  iprop((if has c a s then credS c a s else srcAny c a s) ∗ landAny c a s ∗ posS c a s ∗ semVal (recvCell c a s) 0)
/-- and at the end. -/
def D6 (c : Dev nD) (a : Fin 3) (s : Bool) : sProp 𝕄 :=
  iprop(landAny c a s ∗ srcAny c a s ∗ semVal (sendCell c a s) 0 ∗ semVal (recvCell c a s) 0)

/-- How many of a list of directions lead to a neighbour. -/
def left (c : Dev nD) (l : List Dir) : ℕ := (l.filter fun d => has c d.1 d.2).length

/-- A direction with a neighbour counts one more; -/
theorem left_cons_pos (c : Dev nD) (d : Dir) (l : List Dir) (h : has c d.1 d.2) : left c (d :: l) = left c l + 1 := by
  unfold left; rw [List.filter_cons_of_pos (by simpa using h)]; rfl
/-- one without counts nothing. -/
theorem left_cons_neg (c : Dev nD) (d : Dir) (l : List Dir) (h : ¬ has c d.1 d.2) : left c (d :: l) = left c l := by
  unfold left; rw [List.filter_cons_of_neg (by simpa using h)]
/-- The whole list counts each neighbour once. -/
theorem left_order : ∀ c : Dev nD, left c order = (dirs c).card := by decide +kernel
/-- Every device has a neighbour. -/
theorem left_order_pos : ∀ c : Dev nD, left c order ≠ 0 := by decide +kernel

/-- A device that has the waits of a list `l` of directions still to do on its barrier cell: nothing to
    do any more and all the slots got, or some slots got and the credit for the rest. -/
def waiting (c : Dev nD) (l : List Dir) : sProp 𝕄 :=
  if left c l = 0 then iprop(atPos ER (barCell c) 1 ∅ 0 ∗ bigSep (dirs c) (barPay c))
  else iprop(∃ n S, ⌜n + left c l = (dirs c).card ∧ S ⊆ dirs c⌝ ∗ cred (tallyAt (barCell c) () (left c l))
    ∗ atPos ER (barCell c) 0 S n ∗ bigSep S (barPay c))

/-- What a device owes, whatever it has waited on. -/
def owing (c : Dev nD) (l : List (Bool × Dir)) : sProp 𝕄 := iprop(∃ W, owes (c : Thread nD τ) (owed c l) W)

end Cert.Halo

end
-- ==== Proof.Steps.lean ====
/-
The steps of the kernel which only talk to other devices, each carried from the state before it to the
state after it: signalling, waiting for the neighbours, copying out, waiting until the copies have left.
-/
module

public import proofs.«01_k».proof.Proof.Protocol

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ

/-- The kernel has no variants. -/
abbrev 𝒱₀ : Variants := Variants.none

/-- Device `c` runs `p` and ends with `Q`. -/
abbrev runs (c : Dev nD) (p : PK F α) (Q : α → sProp 𝕄) : sProp 𝕄 :=
  wp frame (wpE (defs₀ (F := F)) 𝒱₀ (c : Thread nD τ) none) Set.univ p Q

variable (u : Dev nD → Vec F S16x16x16 .f32) (K : Dev nD × Kind → ℕ) (c : Dev nD) (a : Fin 3) (s : Bool)
variable (k : PK F α)
variable (Q : α → sProp (MT nD τ sig Unit (Elt F) ℕ UU ℕ))

omit [FloatOps F] in
/-- A cell that has had its rounds gives its counter back, at zero. -/
theorem close_cell (kd : Kind) (R : ℕ) (hR : ∀ r, R ≤ r → (haloRd u).duties (qcell c kd) r = ∅) :
    iprop(records u K ∗ atPos ER (qcell c kd) R ∅ 0) ⊢ iprop(|={Set.univ}=> semVal (qcell c kd) 0) := by
  iintro ⟨#HR, Hat⟩
  ihave ⟨#HI, -⟩ := (records_at u K c kd) $$ HR
  imod (Rounds.cell_close ER (haloRd u) (Set.mem_univ (K (c, kd))) (fun h => h) hR) $$ [Hat] with Hz
  · isplitr
    · iexact HI
    iexact Hat
  imodintro
  iexact Hz

/-- One unit to the barrier cell of the neighbour. -/
theorem wp_sig_nb (hb : has c a s) (κ : PUnit → PK F α) (l : List (Bool × Dir)) (W : Waits sig Unit) :
    iprop(records u K ∗ owes (c : Thread nD τ) (owed c ((false, a, s) :: l)) W ∗ tokB c a s ∗ landAny c a s)
      ⊢ iprop((owes (c : Thread nD τ) (owed c l) W -∗ runs c (κ ⟨⟩) Q)
        -∗ runs c (.op (.semSignal (nb c a s : Thread nD τ) barQ (1#32).toNat) κ) Q) := by
  iintro ⟨#HR, HO, HtB, Hland⟩
  ihave ⟨#HI, #Hr⟩ := (records_at u K (nb c a s) none) $$ HR
  iapply (show iprop(cellInv ER (haloRd u) (K (nb c a s, none)) (barCell (nb c a s)) ∗ owes (c : Thread nD τ) (owed c ((false, a, s) :: l)) W
      ∗ tokB c a s ∗ (haloRd u).payload (barCell (nb c a s)) 0 (a, !s) ∗ reached ER (barCell (nb c a s)) 0)
      ⊢ iprop((owes (c : Thread nD τ) (owed c l) W -∗ runs c (κ ⟨⟩) Q)
        -∗ runs c (.op (.semSignal (nb c a s : Thread nD τ) barQ (1#32).toNat) κ) Q) from
    Rounds.wp_signal 𝒱₀ ER (haloRd u) (c : Thread nD τ) none (dst := (nb c a s : Thread nD τ)) (κ := K (nb c a s, none))
      (d := (a, !s)) ((mem_bar u (nb c a s) (a, !s)).mpr (has_nb c a s hb)) ((amount_eq u (nb c a s) none 0 (a, !s)).trans (by decide))
      () (owed c l) (by show owed c l + due c (false, a, s) = _; unfold due; rw [if_pos hb]; rfl))
  isplitr; · iexact HI
  isplitl [HO]; · iexact HO
  isplitl [HtB]; · iexact HtB
  isplitl [Hland]
  · rw [payload_eq]
    unfold payOf barPay
    dsimp only
    rw [nb_nb c a s hb, Bool.not_not]
    iexact Hland
  iexact Hr

omit [FloatOps F] in
/-- Towards no neighbour nothing is owed. -/
theorem owing_none (h : ¬ has c a s) (b : Bool) (l : List (Bool × Dir)) : owing (F := F) c ((b, a, s) :: l) = owing c l := by
  unfold owing
  rw [show owed c ((b, a, s) :: l) = owed c l by show owed c l + due c (b, a, s) = _; unfold due; rw [if_neg h, add_zero]]

/-- Signalling: the neighbour gets the slot its copy will land in. -/
theorem run_sig (l : List (Bool × Dir)) :
    iprop(records u K ∗ owing c ((false, a, s) :: l) ∗ D0 (F := F) c a s)
      ⊢ iprop(((owing c l ∗ D1 c a s) -∗ runs c k Q) -∗ runs c (sigStep c a s k) Q) := by
  unfold sigStep
  by_cases h : On (hasB c a s)
  · have hb := (on_hasB c a s).mp h
    rw [onlyIf_pos h, dev_eq c a s h]
    simp only [semSignalWord, Prog.lift, Prog.bind_op, Prog.bind_ret, Prog.pure_eq_ret]
    unfold D0 D1 owing
    rw [if_pos hb, if_pos hb]
    iintro ⟨#HR, ⟨%W, HO⟩, ⟨HtB, HtS, HtR, HcR⟩, Hland, Hrest⟩ Hk
    iapply (wp_sig_nb u K c a s Q hb (fun _ => k) l W) $$ [HO HtB Hland]
    · isplitr; · iexact HR
      isplitl [HO]; · iexact HO
      isplitl [HtB] <;> iassumption
    iintro HO
    iapply Hk
    isplitl [HO]; · iexists W; iexact HO
    isplitl [HtS HtR HcR]
    · isplitl [HtS]; · iexact HtS
      isplitl [HtR] <;> iassumption
    iexact Hrest
  · have hb : ¬ has c a s := fun h' => h ((on_hasB c a s).mpr h')
    rw [onlyIf_neg h, owing_none c a s hb]
    unfold D0 D1
    rw [if_neg hb, if_neg hb]
    iintro ⟨-, HO, -, Hland, Hrest⟩ Hk
    iapply Hk
    isplitl [HO]; · iexact HO
    isplitl [Hland] <;> iassumption

/-! ## Waiting for the neighbours -/

omit [FloatOps F] in
/-- With no wait left over nothing changes. -/
theorem waiting_none (l : List Dir) (h : ¬ has c a s) : waiting (F := F) c ((a, s) :: l) = waiting c l := by
  unfold waiting; rw [left_cons_neg c (a, s) l h]

/-- A wait on the barrier cell, some neighbours' signals still to come afterwards. -/
theorem wp_bar_some (κ : PUnit → PK F α) (l : List Dir) (hl : left c l ≠ 0) (n : ℕ) (S : Finset Dir) (hn : n + (left c l + 1) = (dirs c).card)
    (W : Waits sig Unit) :
    iprop(records u K ∗ levAts L lv ∗ cred (tallyAt (barCell c) () (left c l + 1)) ∗ owes (c : Thread nD τ) (owed c copies) W
        ∗ atPos ER (barCell c) 0 S n ∗ bigSep S (barPay c))
      ⊢ iprop(((owing c copies ∗ waiting c l) -∗ runs c (κ ⟨⟩) Q) -∗ runs c (.op (.semWait barQ (1#32).toNat) κ) Q) := by
  rw [Nat.add_comm (left c l) 1, ← tallyAt_add]
  iintro ⟨#HR, #Hlev, Hc, HO, Hat, Hpay⟩ Hk
  ihave ⟨#HI, -⟩ := (records_at u K c none) $$ HR
  ihave ⟨Hc1, Hc⟩ := (cred_add _ _).1 $$ Hc
  iapply (show iprop(cellInv ER (haloRd u) (K (c, none)) (barCell c) ∗ cred (tallyAt (barCell c) () 1) ∗ owes (c : Thread nD τ) (owed c copies) W
        ∗ MayWait (c : Thread nD τ) (qsem none) () (owed c copies) ∗ atPos ER (barCell c) 0 S n)
      ⊢ iprop((∀ S' : Finset Dir, (⌜S ⊆ S' ∧ S' ⊆ (haloRd u).duties (barCell c) 0 ∧ n + 1 + ((haloRd u).duties (barCell c) 0 \ S').card ≤ (haloRd u).expect (barCell c) 0⌝
          ∗ owes (c : Thread nD τ) (owed c copies) (W ∪ {(qsem none, ())}) ∗ atPos ER (barCell c) 0 S' (n + 1)
          ∗ bigSep (S' \ S) fun d => (haloRd u).payload (barCell c) 0 d) -∗ runs c (κ ⟨⟩) Q) -∗ runs c (.op (.semWait barQ (1#32).toNat) κ) Q) from
    Rounds.wp_wait 𝒱₀ ER (haloRd u) (c : Thread nD τ) none (κ := K (c, none)) (sm := qsem none) (wpE_semWait_eq 𝒱₀ (c : Thread nD τ) none Set.univ)
      (Set.mem_univ _) (cr := Finsupp.single () 1) {(qsem none, ())} (Util.total_single _ _) (image_single_subset (qsem none) () 1)) $$ [HO Hat Hc1]
  · isplitr; · iexact HI
    isplitl [Hc1]; · iexact Hc1
    isplitl [HO]; · iexact HO
    isplitr
    · iapply (mayWait_of_lt c (qsem none) copies 1 (le_of_eq (lv_qcell c none ())) (by decide)); iexact Hlev
    iexact Hat
  iintro %S' ⟨%hS, HO, Hat, Hp⟩
  rw [duties_eq] at hS
  iapply Hk
  isplitl [HO]; · unfold owing; iexists _; iexact HO
  unfold waiting
  rw [if_neg hl]
  iexists (n + 1); iexists S'
  isplitr; · ipureintro; exact ⟨by omega, hS.2.1⟩
  isplitl [Hc]; · iexact Hc
  isplitl [Hat]; · iexact Hat
  rw [show bigSep S' (barPay (F := F) c) = iprop(bigSep S (barPay c) ∗ bigSep (S' \ S) (barPay c)) from bigSep_sdiff_split hS.1]
  isplitl [Hpay]; · iexact Hpay
  iapply (Entails.of_eq (bigSep_congr fun d _ => payload_eq u c none 0 d)) $$ Hp

/-- The last wait on the barrier cell: every neighbour has signalled. -/
theorem wp_bar_last (κ : PUnit → PK F α) (l : List Dir) (hl : left c l = 0) (n : ℕ) (S : Finset Dir) (hn : n + 1 = (dirs c).card) (hS : S ⊆ dirs c)
    (W : Waits sig Unit) :
    iprop(records u K ∗ levAts L lv ∗ cred (tallyAt (barCell c) () 1) ∗ owes (c : Thread nD τ) (owed c copies) W
        ∗ atPos ER (barCell c) 0 S n ∗ bigSep S (barPay c))
      ⊢ iprop(((owing c copies ∗ waiting c l) -∗ runs c (κ ⟨⟩) Q) -∗ runs c (.op (.semWait barQ (1#32).toNat) κ) Q) := by
  iintro ⟨#HR, #Hlev, Hc, HO, Hat, Hpay⟩ Hk
  ihave ⟨#HI, -⟩ := (records_at u K c none) $$ HR
  iapply (show iprop(cellInv ER (haloRd u) (K (c, none)) (barCell c) ∗ cred (tallyAt (barCell c) () 1) ∗ owes (c : Thread nD τ) (owed c copies) W
        ∗ MayWait (c : Thread nD τ) (qsem none) () (owed c copies) ∗ atPos ER (barCell c) 0 S n)
      ⊢ iprop(((owes (c : Thread nD τ) (owed c copies) (insert (qsem none, ()) W) ∗ atPos ER (barCell c) (0 + 1) ∅ 0 ∗ reached ER (barCell c) (0 + 1)
          ∗ bigSep ((haloRd u).duties (barCell c) 0 \ S) fun d => (haloRd u).payload (barCell c) 0 d) -∗ runs c (κ ⟨⟩) Q)
        -∗ runs c (.op (.semWait barQ (1#32).toNat) κ) Q) from
    Rounds.wp_wait_rest_token 𝒱₀ ER (haloRd u) (c : Thread nD τ) none (κ := K (c, none)) (wpE_semWait_eq 𝒱₀ (c : Thread nD τ) none Set.univ)
      (Set.mem_univ _) () (hn.trans (expect_bar u c).symm)) $$ [HO Hat Hc]
  · isplitr; · iexact HI
    isplitl [Hc]; · iexact Hc
    isplitl [HO]; · iexact HO
    isplitr
    · iapply (mayWait_of_lt c (qsem none) copies 1 (le_of_eq (lv_qcell c none ())) (by decide)); iexact Hlev
    iexact Hat
  iintro ⟨HO, Hat, -, Hp⟩
  iapply Hk
  isplitl [HO]; · unfold owing; iexists _; iexact HO
  unfold waiting
  rw [if_pos hl, show bigSep (dirs c) (barPay (F := F) c) = iprop(bigSep S (barPay c) ∗ bigSep (dirs c \ S) (barPay c)) from bigSep_sdiff_split hS]
  isplitl [Hat]; · iexact Hat
  isplitl [Hpay]; · iexact Hpay
  iapply (Entails.of_eq ((bigSep_congr fun d _ => payload_eq u c none 0 d).trans (by rw [duties_eq]; rfl))) $$ Hp

/-- Waiting for one more neighbour. -/
theorem run_wait (l : List Dir) :
    iprop(records u K ∗ levAts L lv ∗ owing c copies ∗ waiting c ((a, s) :: l))
      ⊢ iprop(((owing c copies ∗ waiting c l) -∗ runs c k Q) -∗ runs c (waitStep c a s k) Q) := by
  unfold waitStep
  by_cases h : On (hasB c a s)
  · have hb := (on_hasB c a s).mp h
    rw [onlyIf_pos h]
    simp only [semWaitWord, Prog.lift, Prog.bind_op, Prog.bind_ret, Prog.pure_eq_ret]
    have hl := left_cons_pos c (a, s) l hb
    conv_lhs => unfold waiting
    rw [if_neg (by omega), hl]
    iintro ⟨#HR, #Hlev, HO, ⟨%n, %S, %hn, Hc, Hat, Hp⟩⟩
    unfold owing
    icases HO with ⟨%W, HO⟩
    rcases Nat.eq_zero_or_pos (left c l) with h0 | h0
    · rw [h0] at hn ⊢
      iapply (wp_bar_last u K c Q (fun _ => k) l h0 n S hn.1 hn.2 W)
      isplitr; · iexact HR
      isplitr; · iexact Hlev
      isplitl [Hc]; · iexact Hc
      isplitl [HO]; · iexact HO
      isplitl [Hat] <;> iassumption
    · iapply (wp_bar_some u K c Q (fun _ => k) l (by omega) n S hn.1 W)
      isplitr; · iexact HR
      isplitr; · iexact Hlev
      isplitl [Hc]; · iexact Hc
      isplitl [HO]; · iexact HO
      isplitl [Hat] <;> iassumption
  · have hb : ¬ has c a s := fun h' => h ((on_hasB c a s).mpr h')
    rw [onlyIf_neg h, waiting_none c a s l hb]
    iintro ⟨-, -, HO, Hw⟩ Hk
    iapply Hk
    isplitl [HO] <;> iassumption

/-! ## Copying out -/

/-- The copy of the face to the neighbour `n`, which is the one on that side. -/
theorem wp_copy (n : Dev nD) (hn : n = nb c a s) (hb : has c a s)
    {hsc : (landM a (!s) : Memref sig (Dev.tc n : Thread nD τ).2.kind .vmem (faceS a) .f32).view.ref.isScScratch = false}
    {hsrc : (srcM a s).view.WordExact} {hdst : (landM a (!s)).view.WordExact}
    {hsem : DmaTarget.Typed .vmem (.dma (recvQ a (!s))) (.remote (Dev.tc n : Thread nD τ) (landM a (!s)) (.dma (sendQ a s)) hsc)}
    (κ : PUnit → PK F α) (l : List (Bool × Dir)) (W : Waits sig Unit) :
    iprop(records u K ∗ srcFace u c a s ∗ landAny (nb c a s) a (!s) ∗ owes (c : Thread nD τ) (owed c ((true, a, s) :: l)) W ∗ tokS c a s ∗ tokR c a s)
      ⊢ iprop(((credS c a s ∗ owes (c : Thread nD τ) (owed c l) W) -∗ runs c (κ ⟨⟩) Q)
        -∗ runs c (.op (.enqueueDma (srcM a s) (.remote (Dev.tc n : Thread nD τ) (landM a (!s)) (.dma (sendQ a s)) hsc) (.dma (recvQ a (!s))) hsrc hdst hsem) κ) Q) := by
  subst hn
  unfold srcFace landAny
  iintro ⟨#HR, ⟨%fs, %hfs, Hsrc⟩, ⟨%fd, Hland⟩, HO, HtS, HtR⟩
  ihave ⟨#HIs, #Hrs⟩ := (records_at u K c (some (false, a, s))) $$ HR
  ihave ⟨#HIr, #Hrr⟩ := (records_at u K (nb c a s) (some (true, a, !s))) $$ HR
  iapply (show iprop(cellInv ER (haloRd u) (K (c, some (false, a, s))) (sendCell c a s)
        ∗ cellInv ER (haloRd u) (K (nb c a s, some (true, a, !s))) (recvCell (nb c a s) a (!s))
        ∗ srcPts c a s fs ∗ landPts (nb c a s) a (!s) fd ∗ owes (c : Thread nD τ) (owed c ((true, a, s) :: l)) W
        ∗ tokS c a s ∗ reached ER (sendCell c a s) 0 ∗ tokR c a s ∗ reached ER (recvCell (nb c a s) a (!s)) 0)
      ⊢ iprop(((credS c a s ∗ owes (c : Thread nD τ) (owed c l) W) -∗ runs c (κ ⟨⟩) Q)
        -∗ runs c (.op (.enqueueDma (srcM a s) (.remote (Dev.tc (nb c a s) : Thread nD τ) (landM a (!s)) (.dma (sendQ a s)) hsc) (.dma (recvQ a (!s))) hsrc hdst hsem) κ) Q) from
    Rounds.wp_send_pointsTo 𝒱₀ ER (haloRd u) (c : Thread nD τ) none (κ₁ := K (c, some (false, a, s))) (κ₂ := K (nb c a s, some (true, a, !s)))
      (r₁ := 0) (r₂ := 0) (d₁ := d₀) (d₂ := d₀) (fd := fd) (mem_dma u c false a s hb) (mem_dma u (nb c a s) true a (!s) (has_nb c a s hb))
      () () (credit a) (credit_land a (!s)) (amount_eq u c (some (false, a, s)) 0 d₀) (amount_eq u (nb c a s) (some (true, a, !s)) 0 d₀)
      (owed c l) (by show owed c l + due c (true, a, s) = _; unfold due; rw [if_pos hb]; rfl) (W := W)
      (by
        refine BIBase.Entails.trans ?_ (Entails.of_eq (payload_eq u c (some (false, a, s)) 0 d₀).symm)
        unfold payOf srcAny srcPts
        iintro H; iexists fs; iexact H)
      (by
        refine BIBase.Entails.trans ?_ (Entails.of_eq (payload_eq u (nb c a s) (some (true, a, !s)) 0 d₀).symm)
        unfold payOf landFace landPts
        iintro H; iexists ((landM a (!s)).view.write (Elt F) fd ((srcM a s).view.read (Elt F) fs) Finset.univ)
        isplitr
        · ipureintro
          dsimp only
          rw [View.read_write_univ, hfs, nb_nb c a s hb, Bool.not_not]
        iexact H))
  isplitr; · iexact HIs
  isplitr; · iexact HIr
  isplitl [Hsrc]; · iexact Hsrc
  isplitl [Hland]; · iexact Hland
  isplitl [HO]; · iexact HO
  isplitl [HtS]; · iexact HtS
  isplitr; · iexact Hrs
  isplitl [HtR]; · iexact HtR
  iexact Hrr

/-- Copying out: the copy takes both slots with it. -/
theorem run_send (l : List (Bool × Dir)) :
    iprop(records u K ∗ owing c ((true, a, s) :: l) ∗ D3 u c a s)
      ⊢ iprop(((owing c l ∗ D4 c a s) -∗ runs c k Q) -∗ runs c (sendStep c a s k) Q) := by
  unfold sendStep
  by_cases h : On (hasB c a s)
  · have hb := (on_hasB c a s).mp h
    rw [onlyIf_pos h]
    simp only [Prog.lift, Prog.bind_op, Prog.bind_ret]
    unfold D3 D2 D4 owing
    rw [if_pos hb, if_pos hb, if_pos hb]
    iintro ⟨#HR, ⟨%W, HO⟩, Hland, ⟨HtS, HtR, HcR⟩, Hsrc, Hrest⟩ Hk
    iapply (wp_copy u K c a s Q _ (dev_eq c a s h) hb (fun _ => k) l W) $$ [HO HtS HtR Hland Hsrc]
    · isplitr; · iexact HR
      isplitl [Hsrc]; · iexact Hsrc
      isplitl [Hland]; · iexact Hland
      isplitl [HO]; · iexact HO
      isplitl [HtS] <;> iassumption
    iintro ⟨HcS, HO⟩
    iapply Hk
    isplitl [HO]; · iexists W; iexact HO
    isplitr [Hrest]
    · isplitl [HcS] <;> iassumption
    iexact Hrest
  · have hb : ¬ has c a s := fun h' => h ((on_hasB c a s).mpr h')
    rw [onlyIf_neg h, owing_none c a s hb]
    unfold D3 D2 D4 srcFace srcAny
    rw [if_neg hb, if_neg hb, if_neg hb]
    iintro ⟨-, HO, -, Hland, ⟨%f, -, Hsrc⟩, Hrest⟩ Hk
    iapply Hk
    isplitl [HO]; · iexact HO
    isplitr [Hrest]
    · isplitl [Hland]; · iexact Hland
      iexists f; iexact Hsrc
    iexact Hrest

/-! ## Waiting for a copy -/

/-- A wait for the one copy of a send or receive cell: what it hands over, and the cell's counter at zero. -/
theorem wp_wait_copy (b : Bool) (hb : has c a s) {w : TpuEff nD τ sig (Elt F) Λ₀ .tc PUnit}
    (hw : ∀ X : PUnit → sProp 𝕄, wpE (defs₀ (F := F)) 𝒱₀ (c : Thread nD τ) none Set.univ w X
      = waitSpec (c : Thread nD τ) Set.univ (qsem (some (b, a, s))) (credit a) X) (κ : PUnit → PK F α) :
    iprop(records u K ∗ cred (tallyAt (qcell c (some (b, a, s))) () (credit a)) ∗ owing c [] ∗ atPos ER (qcell c (some (b, a, s))) 0 ∅ 0)
      ⊢ iprop(((owing c [] ∗ payOf u c (some (b, a, s)) d₀ ∗ semVal (qcell c (some (b, a, s))) 0) -∗ runs c (κ ⟨⟩) Q) -∗ runs c (.op w κ) Q) := by
  unfold owing
  iintro ⟨#HR, Hc, ⟨%W, HO⟩, Hat⟩ Hk
  ihave ⟨#HI, -⟩ := (records_at u K c (some (b, a, s))) $$ HR
  iapply (Rounds.wp_wait_rest_token 𝒱₀ ER (haloRd u) (c : Thread nD τ) none (κ := K (c, some (b, a, s))) hw (Set.mem_univ _) ()
    (O := owed c []) (W := W) (R := 0) (m := 0) (T := ∅) ((Nat.zero_add _).trans (expect_dma u c b a s hb).symm)) $$ [HO Hat Hc]
  · isplitr; · iexact HI
    isplitl [Hc]; · iexact Hc
    isplitl [HO]; · iexact HO
    isplitr
    · rw [show owed c [] = 0 from rfl, MayWait_zero]; iempintro
    iexact Hat
  iintro ⟨HO, Hat, -, Hp⟩
  imod (close_cell u K c (some (b, a, s)) (0 + 1) (duties_later u _)) $$ [Hat] with Hz
  · isplitr; · iexact HR
    iexact Hat
  iapply Hk
  isplitl [HO]; · iexists _; iexact HO
  isplitl [Hp]
  · iapply (Entails.of_eq (show bigSep ((haloRd u).duties (qcell c (some (b, a, s))) 0 \ ∅) (fun d => (haloRd u).payload (qcell c (some (b, a, s))) 0 d)
      = payOf u c (some (b, a, s)) d₀ by
        rw [Finset.sdiff_empty, duties_eq]; unfold dutiesOf; dsimp only; rw [if_pos hb, bigSep_singleton, payload_eq])) $$ Hp
  iexact Hz

/-- Waiting until the face has left: the send slot is the device's again. -/
theorem run_done : iprop(records u K ∗ owing c [] ∗ D5 (F := F) c a s)
      ⊢ iprop(((owing c [] ∗ D6 c a s) -∗ runs c k Q) -∗ runs c (doneStep c a s k) Q) := by
  unfold doneStep
  by_cases h : On (hasB c a s)
  · have hb := (on_hasB c a s).mp h
    rw [onlyIf_pos h]
    simp only [Prog.lift, Prog.bind_op, Prog.bind_ret]
    unfold D5 D6
    rw [if_pos hb]
    iintro ⟨#HR, HO, HcS, Hland, Hat, Hz⟩ Hk
    iapply (wp_wait_copy u K c a s Q false hb (fun X => (wpE_waitDma2_eq 𝒱₀ (c : Thread nD τ) none Set.univ X).trans
      (by rw [credit_src]; rfl)) (fun _ => k)) $$ [HO HcS Hat]
    · isplitr; · iexact HR
      isplitl [HcS]; · unfold credS; iexact HcS
      isplitl [HO]; · iexact HO
      unfold posS; iexact Hat
    iintro ⟨HO, Hsrc, HzS⟩
    iapply Hk
    isplitl [HO]; · iexact HO
    isplitl [Hland]; · iexact Hland
    isplitl [Hsrc]; · unfold payOf; iexact Hsrc
    isplitl [HzS] <;> iassumption
  · have hb : ¬ has c a s := fun h' => h ((on_hasB c a s).mpr h')
    rw [onlyIf_neg h]
    unfold D5 D6 posS
    rw [if_neg hb]
    iintro ⟨#HR, HO, Hsrc, Hland, Hat, Hz⟩ Hk
    imod (close_cell u K c (some (false, a, s)) 0 (duties_none u c false (a, s) hb)) $$ [Hat] with HzS
    · isplitr; · iexact HR
      iexact Hat
    iapply Hk
    isplitl [HO]; · iexact HO
    isplitl [Hland]; · iexact Hland
    isplitl [Hsrc]; · iexact Hsrc
    isplitl [HzS] <;> iassumption

end Cert.Halo

end
-- ==== Proof.Compute.lean ====
/-
The steps of the kernel which work on the device's own memory: packing the faces, the stencil on the
block, adding the faces that arrived, zeroing the faces of the domain.
-/
module

public import proofs.«01_k».proof.Proof.Steps
public import Idealize.ShloMosaic.Lib.Pipeline.Value
public import Idealize.ShloMosaic.Lib.Exec.Geometry

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {α : Type}

local notation "𝕄" => MT nD τ sig Unit (Elt F) ℕ UU ℕ

variable (u : Dev nD → Vec F S16x16x16 .f32) (K : Dev nD × Kind → ℕ) (c : Dev nD) (a : Fin 3) (s : Bool)
variable (k : PK F α)
variable (Q : α → sProp (MT nD τ sig Unit (Elt F) ℕ UU ℕ))

/-- The device's block, and its result so far. -/
def uPts : sProp 𝕄 := ((c : Thread nD τ).loc cc0_stg0_0) ↦{fullShare} (u c : Buf (Elt F) ((c : Thread nD τ).loc cc0_stg0_0))
/-- The device's result, holding `f`. -/
def oPts (f : Vec F S16x16x16 .f32) : sProp 𝕄 := ((c : Thread nD τ).loc cc0_stg1_0) ↦{fullShare} (f : Buf (Elt F) ((c : Thread nD τ).loc cc0_stg1_0))

/-! ## Slots -/

omit [FloatOps F] in
/-- The elements of a slot seen as a face are those of the slot's rectangle. -/
theorem slot_set (M : Memref sig .tc .vmem (bufS a) .f32) :
    ((M.slice (slotR a s) (fun _ => rfl)).squeeze (faceS a) (squeezes a)).view.set = (M.view.slice (slotR a s)).set := View.set_reshape _ _

omit [FloatOps F] in
/-- A slot holds the elements of its rectangle. -/
theorem slot_sub (M : Memref sig .tc .vmem (bufS a) .f32) :
    M.view.setOn (slotR a s).toLoadRect.set ⊆ ((M.slice (slotR a s) (fun _ => rfl)).squeeze (faceS a) (squeezes a)).view.set := by
  rw [slot_set, View.set_slice]
  exact Finset.Subset.refl _

omit [FloatOps F] in
/-- A store to a slot's rectangle touches elements of the slot only. -/
theorem slot_sub' (M : Memref sig .tc .vmem (bufS a) .f32) :
    (M.access (slotR a s)).setOn Finset.univ ⊆ ((M.slice (slotR a s) (fun _ => rfl)).squeeze (faceS a) (squeezes a)).view.set := by
  rw [slot_set, View.setOn_univ]

omit [FloatOps F] in
/-- What is read through a slot after a store to its rectangle is what was stored, as a face; -/
theorem read_slot_write (M : Memref sig .tc .vmem (bufS a) .f32) (f : M.view.ty.Contents (Elt F)) (w : Vec F (slotS a) .f32) :
    ((M.slice (slotR a s) (fun _ => rfl)).squeeze (faceS a) (squeezes a)).view.read (Elt F) ((M.access (slotR a s)).write (Elt F) f w Finset.univ)
      = shapeCast (faceS a) w (unslotCasts a) := by
  funext j
  show (M.view.slice (slotR a s)).read (Elt F) ((M.view.slice (slotR a s)).write (Elt F) f w Finset.univ) (Shape.reshapeEquiv _ j) = _
  rw [View.read_write_univ]
  rfl

omit [FloatOps F] in
/-- and what a load of the rectangle gives is, as a face, what is read through the slot. -/
theorem load_slot (M : Memref sig .tc .vmem (bufS a) .f32) (f : M.view.ty.Contents (Elt F)) :
    shapeCast (faceS a) (M.view.readAt (Elt F) (slotR a s).toLoadRect f) (unslotCasts a)
      = ((M.slice (slotR a s) (fun _ => rfl)).squeeze (faceS a) (squeezes a)).view.read (Elt F) f := rfl

/-! ## Packing -/

/-- Packing: the face is in its send slot. -/
theorem run_pack : iprop(uPts u c ∗ D1 c a s) ⊢ iprop(((uPts u c ∗ D2 u c a s) -∗ runs c k Q) -∗ runs c (packStep a s k) Q) := by
  unfold packStep
  simp only [Prog.lift, Prog.bind_op, Prog.bind_ret, bind, Prog.bind]
  unfold D1 D2 srcAny srcFace uPts
  iintro ⟨Hu, Ht, ⟨%f, Hs⟩, Hrest⟩ Hk
  iapply (wp_load 𝒱₀ (c : Thread nD τ) none Set.univ (m := uM) (Finset.subset_univ _)) $$ Hu
  iintro Hu
  unfold srcPts
  iapply (wp_load 𝒱₀ (c : Thread nD τ) none Set.univ (m := sbM a) (slot_sub a s (sbM a))) $$ Hs
  iintro Hs
  iapply (wp_store 𝒱₀ (c : Thread nD τ) none Set.univ (m := sbM a) (r := slotR a s) (Mk := Finset.univ) (slot_sub' a s (sbM a))) $$ Hs
  iintro Hs
  iapply Hk
  isplitl [Hu]; · iexact Hu
  isplitl [Ht]; · iexact Ht
  isplitl [Hs]
  · iexists _
    isplitr [Hs]
    rotate_left
    · iexact Hs
    ipureintro
    rw [read_slot_write, shapeCast_shapeCast, shapeCast_self]
    rfl
  iexact Hrest

/-! ## The stencil on the block itself -/

omit [FloatOps F] in
/-- The offset zero along each axis. -/
theorem zero3 : (![0, 0, 0] : Fin 3 → ℕ) = fun _ => 0 := funext fun i => by fin_cases i <;> rfl

omit [FloatOps F] in
/-- The whole block loaded, the whole result stored. -/
theorem load_whole (h : ∀ i, (![0, 0, 0] : Fin 3 → ℕ) i + (![16, 16, 16] : Fin 3 → ℕ) i ≤ S16x16x16.size i) (f : Vec F S16x16x16 .f32) :
    uM.view.readAt (Elt F) (Rect.unit (s := S16x16x16) ![0, 0, 0] ![16, 16, 16] h).toLoadRect f = f :=
  Memref.readAt_unit_zero (Elt F) cc0_stg0_0 zero3 _ f
omit [FloatOps F] in
/-- A store to the whole result leaves what was stored. -/
theorem store_whole (h : ∀ i, (![0, 0, 0] : Fin 3 → ℕ) i + (![16, 16, 16] : Fin 3 → ℕ) i ≤ S16x16x16.size i) (f w : Vec F S16x16x16 .f32) :
    (oM.access (Rect.unit (s := S16x16x16) ![0, 0, 0] ![16, 16, 16] h)).write (Elt F) f w Finset.univ = w :=
  Memref.write_access_unit_zero_univ (Elt F) cc0_stg1_0 zero3 _ f w

/-- The stencil on the block: the result so far is the stencil with nothing beyond the block. -/
theorem run_core (f : Vec F S16x16x16 .f32) :
    iprop(uPts u c ∗ oPts c f) ⊢ iprop(((uPts u c ∗ oPts c (k0_pay10 (u c))) -∗ runs c k Q) -∗ runs c (coreStep k) Q) := by
  unfold coreStep
  simp only [Prog.lift, Prog.bind_op, Prog.bind_ret, bind, Prog.bind]
  unfold uPts oPts
  iintro ⟨Hu, Ho⟩ Hk
  iapply (wp_load 𝒱₀ (c : Thread nD τ) none Set.univ (m := uM) (Finset.subset_univ _)) $$ Hu
  iintro Hu
  rw [load_whole]
  iapply (wp_load 𝒱₀ (c : Thread nD τ) none Set.univ (m := oM) (Finset.subset_univ _)) $$ Ho
  iintro Ho
  iapply (wp_store 𝒱₀ (c : Thread nD τ) none Set.univ (m := oM)
    (r := Rect.unit (s := S16x16x16) ![0, 0, 0] ![16, 16, 16] Facts₀.inb_S16x16x16_S16x16x16_0_0_0) (Mk := Finset.univ) (Finset.subset_univ _)) $$ Ho
  iintro Ho
  rw [store_whole]
  iapply Hk
  isplitl [Hu] <;> iassumption

/-! ## Adding and zeroing faces -/

/-- The result with one face replaced. -/
def setFace (f : Vec F S16x16x16 .f32) (v : Vec F (faceS a) .f32) : Vec F S16x16x16 .f32 :=
  (oM.access (faceR a s)).write (Elt F) f v Finset.univ
/-- One face of the result. -/
def getFace (f : Vec F S16x16x16 .f32) : Vec F (faceS a) .f32 := oM.view.readAt (Elt F) (faceR a s).toLoadRect f

/-- The result once the neighbour's face is added, where there is a neighbour; -/
def addNb (f : Vec F S16x16x16 .f32) : Vec F S16x16x16 .f32 :=
  if has c a s then setFace a s f (addf (getFace a s f) (faceOf u (nb c a s) a (!s))) else f
/-- the result once the face is zeroed, where there is none. -/
def zeroEnd (f : Vec F S16x16x16 .f32) : Vec F S16x16x16 .f32 := if has c a s then f else setFace a s f (zeroFace a)

/-- Adding: the neighbour's face is waited for and added. -/
theorem run_recv (f : Vec F S16x16x16 .f32) :
    iprop(records u K ∗ owing c [] ∗ D4 c a s ∗ oPts c f)
      ⊢ iprop(((owing c [] ∗ D5 c a s ∗ oPts c (addNb u c a s f)) -∗ runs c k Q) -∗ runs c (recvStep c a s k) Q) := by
  unfold recvStep addNb
  by_cases h : On (hasB c a s)
  · have hb := (on_hasB c a s).mp h
    rw [onlyIf_pos h, if_pos hb]
    simp only [Prog.lift, Prog.bind_op, Prog.bind_ret, bind, Prog.bind]
    unfold D4 D5
    rw [if_pos hb, if_pos hb]
    iintro ⟨#HR, HO, ⟨⟨HcS, HcR⟩, HpS, HpR⟩, Ho⟩ Hk
    iapply (wp_wait_copy u K c a s Q true hb (fun X => (wpE_waitDma2_eq 𝒱₀ (c : Thread nD τ) none Set.univ X).trans
      (by rw [credit_land]; rfl))) $$ [HO HcR HpR]
    · isplitr; · iexact HR
      isplitl [HcR]; · unfold credR; iexact HcR
      isplitl [HO]; · iexact HO
      unfold posR; iexact HpR
    iintro ⟨HO, Hland, Hz⟩
    unfold payOf landFace
    icases Hland with ⟨%g, %hg, Hland⟩
    unfold oPts landPts
    iapply (wp_load 𝒱₀ (c : Thread nD τ) none Set.univ (m := oM) (Finset.subset_univ _)) $$ Ho
    iintro Ho
    iapply (wp_load 𝒱₀ (c : Thread nD τ) none Set.univ (m := rbM a) (slot_sub a s (rbM a))) $$ Hland
    iintro Hland
    iapply (wp_load 𝒱₀ (c : Thread nD τ) none Set.univ (m := oM) (Finset.subset_univ _)) $$ Ho
    iintro Ho
    iapply (wp_store 𝒱₀ (c : Thread nD τ) none Set.univ (m := oM) (r := faceR a s) (Mk := Finset.univ) (Finset.subset_univ _)) $$ Ho
    iintro Ho
    unfold addFace
    rw [load_slot, hg, shapeCast_self]
    iapply Hk
    isplitl [HO]; · iexact HO
    isplitr [Ho]
    · isplitl [HcS]; · iexact HcS
      isplitl [Hland]; · unfold landAny landPts; iexists g; iexact Hland
      isplitl [HpS] <;> iassumption
    unfold setFace getFace
    iexact Ho
  · have hb : ¬ has c a s := fun h' => h ((on_hasB c a s).mpr h')
    rw [onlyIf_neg h, if_neg hb]
    unfold D4 D5 posR
    rw [if_neg hb, if_neg hb]
    iintro ⟨#HR, HO, ⟨⟨Hland, Hsrc⟩, HpS, HpR⟩, Ho⟩ Hk
    imod (close_cell u K c (some (true, a, s)) 0 (duties_none u c true (a, s) hb)) $$ [HpR] with Hz
    · isplitr; · iexact HR
      iexact HpR
    iapply Hk
    isplitl [HO]; · iexact HO
    isplitr [Ho]
    · isplitl [Hsrc]; · iexact Hsrc
      isplitl [Hland]; · iexact Hland
      isplitl [HpS] <;> iassumption
    iexact Ho

/-- Zeroing a face of the domain. -/
theorem run_zero (f : Vec F S16x16x16 .f32) :
    oPts c f ⊢ iprop((oPts c (zeroEnd c a s f) -∗ runs c k Q) -∗ runs c (zeroStep c a s k) Q) := by
  unfold zeroStep zeroEnd
  by_cases h : On (endB c a s)
  · have hb := (on_endB c a s).mp h
    rw [onlyIf_pos h, if_neg hb]
    simp only [Prog.lift, Prog.bind_op, Prog.bind_ret, bind, Prog.bind]
    unfold oPts
    iintro Ho Hk
    iapply (wp_load 𝒱₀ (c : Thread nD τ) none Set.univ (m := oM) (Finset.subset_univ _)) $$ Ho
    iintro Ho
    iapply (wp_store 𝒱₀ (c : Thread nD τ) none Set.univ (m := oM) (r := faceR a s) (Mk := Finset.univ) (Finset.subset_univ _)) $$ Ho
    iintro Ho
    iapply Hk
    unfold setFace
    iexact Ho
  · have hb : has c a s := not_not.mp fun h' => h ((on_endB c a s).mpr h')
    rw [onlyIf_neg h, if_pos hb]
    iintro Ho Hk
    iapply Hk
    iexact Ho

end Cert.Halo

end
-- ==== Proof.Body.lean ====
/-
The body of the kernel on one device: the steps put together, from what the launch gives the device to
what it gives back, and the launch's obligation about the body.
-/
module

public import proofs.«01_k».proof.Proof.Compute
public import Idealize.ShloMosaic.Lib.Pipeline.BigSepL

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A step for every direction of a list -/

section Each
variable {α : Type} (c : Dev nD) (st : Fin 3 → Bool → PK F α → PK F α)

/-- A step done for every direction of a list, then `k`. -/
def each (l : List Dir) (k : PK F α) : PK F α := l.foldr (fun d k => st d.1 d.2 k) k

/-- If a step carries what a device holds for a direction from `A` to `B`, and what it holds besides
    from `S` of the directions left to `S` of one fewer, the step done for every direction of a list
    carries all of them. -/
theorem run_each {R : sProp (MT nD τ sig Unit (Elt F) ℕ UU ℕ)} [BI.Persistent R] {S : List Dir → sProp (MT nD τ sig Unit (Elt F) ℕ UU ℕ)}
    {A B : Dir → sProp (MT nD τ sig Unit (Elt F) ℕ UU ℕ)} (Q : α → sProp (MT nD τ sig Unit (Elt F) ℕ UU ℕ))
    (h : ∀ (d : Dir) (l : List Dir) (k : PK F α), iprop(R ∗ S (d :: l) ∗ A d) ⊢ iprop(((S l ∗ B d) -∗ runs c k Q) -∗ runs c (st d.1 d.2 k) Q)) (k : PK F α) :
    ∀ l : List Dir, iprop(R ∗ S l ∗ bigSepL l A) ⊢ iprop(((S [] ∗ bigSepL l B) -∗ runs c k Q) -∗ runs c (each st l k) Q)
  | [] => by
    rw [bigSepL_nil, bigSepL_nil]
    iintro ⟨-, HS, HA⟩ Hk
    iapply Hk
    isplitl [HS]; · iexact HS
    iexact HA
  | d :: l => by
    rw [bigSepL_cons', bigSepL_cons']
    iintro ⟨#HR, HS, HA, HL⟩ Hk
    iapply (h d l (each st l k)) $$ [HS HA]
    · isplitr; · iexact HR
      isplitl [HS] <;> iassumption
    iintro ⟨HS, HB⟩
    iapply (run_each Q h k l) $$ [HS HL]
    · isplitr; · iexact HR
      isplitl [HS] <;> iassumption
    iintro ⟨HS, HL⟩
    iapply Hk
    isplitl [HS]; · iexact HS
    isplitl [HB] <;> iassumption

end Each

/-- The body is its steps, each done for all six directions. -/
theorem steps_eq (c : Dev nD) : steps (F := F) c = each (sigStep c) order (each packStep order (each (waitStep c) order (each (sendStep c) order
    (coreStep (each (recvStep c) order (each (zeroStep c) order (each (doneStep c) order (pure ⟨⟩)))))))) := by
  simp only [each, order, List.foldr_cons, List.foldr_nil]
  rfl

variable (u : Dev nD → Vec F S16x16x16 .f32) (K : Dev nD × Kind → ℕ) (c : Dev nD)

/-- The stencil on the block with the neighbours' faces added; and with the faces of the domain zeroed. -/
def addAll (f : Vec F S16x16x16 .f32) (l : List Dir) : Vec F S16x16x16 .f32 := l.foldl (fun f d => addNb u c d.1 d.2 f) f
/-- The domain's faces of a list of directions zeroed, one after another. -/
def zeroAll (f : Vec F S16x16x16 .f32) (l : List Dir) : Vec F S16x16x16 .f32 := l.foldl (fun f d => zeroEnd c d.1 d.2 f) f
/-- The result of the kernel on a device. -/
def outOf : Vec F S16x16x16 .f32 := zeroAll c (addAll u c (k0_pay10 (u c)) order) order

omit [FloatOps F] in
/-- Nothing held, for each direction of a list. -/
theorem nothing : ∀ l : List Dir, (iprop(emp) : sProp 𝕄) ⊢ bigSepL l fun _ => iprop(emp)
  | [] => BIBase.Entails.rfl
  | _ :: l => by
    rw [bigSepL_cons']
    exact (nothing l).trans BI.emp_sep_intro

/-- What holds all through the body. -/
def ambient : sProp 𝕄 := iprop(records u K ∗ levAts L lv)
instance ambient_persistent : BI.Persistent (ambient u K) := by unfold ambient; infer_instance

omit [FloatOps F] in
/-- One thing per direction is one thing for each entry of the kernel's list of directions. -/
theorem all_dirs (Φ : Dir → sProp 𝕄) : bigSep Finset.univ Φ = bigSepL order Φ :=
  bigSep_univ_eq_bigSepL order (by decide) (by decide) Φ

omit [FloatOps F] in
/-- With no wait left, the barrier's round is over and the device has what every neighbour gave. -/
theorem all_waited : waiting (F := F) c [] ⊢ iprop(atPos ER (barCell c) 1 ∅ 0 ∗ bigSep (dirs c) (barPay c)) := by
  unfold waiting
  rw [show left c [] = 0 from rfl, if_pos rfl]

omit [FloatOps F] in
/-- All neighbours have signalled: each direction gets the slot its copy will land in. -/
theorem got_slots : iprop(bigSepL order (fun d => D2 u c d.1 d.2) ∗ bigSep (dirs c) (barPay c)) ⊢ bigSepL order fun d => D3 u c d.1 d.2 := by
  unfold dirs
  rw [bigSep_filter, ← all_dirs, ← all_dirs]
  unfold D3
  rw [show (bigSep Finset.univ fun d : Dir => iprop((if has c d.1 d.2 then landAny (nb c d.1 d.2) d.1 (!d.2) else iprop(emp)) ∗ D2 u c d.1 d.2))
    = iprop((bigSep Finset.univ fun d : Dir => if has c d.1 d.2 then landAny (nb c d.1 d.2) d.1 (!d.2) else iprop(emp)) ∗ bigSep Finset.univ fun d : Dir => D2 u c d.1 d.2)
    from bigSep_sep _ _ _]
  iintro ⟨H1, H2⟩
  isplitl [H2]
  · iexact H2
  iexact H1

/-- The body, from what the device holds at the start to what it holds at the end. -/
theorem run_steps (f : Vec F S16x16x16 .f32) (Q : PUnit → sProp (MT nD τ sig Unit (Elt F) ℕ UU ℕ)) :
    iprop(ambient u K ∗ owing c signals ∗ waiting c order ∗ (bigSep Finset.univ fun d : Dir => D0 c d.1 d.2) ∗ uPts u c ∗ oPts c f)
      ⊢ iprop(((owing c [] ∗ semVal (barCell c) 0 ∗ (bigSep Finset.univ fun d : Dir => D6 c d.1 d.2) ∗ uPts u c ∗ oPts c (outOf u c)) -∗ Q ⟨⟩)
        -∗ runs c (steps c) Q) := by
  rw [steps_eq, all_dirs, all_dirs]
  iintro ⟨#HR, HO, Hw, HD, Hu, Ho⟩ Hk
  -- the signals
  iapply (run_each c (sigStep c) (R := ambient u K) (S := fun l => owing c (l.map (fun d => (false, d)) ++ copies)) (A := fun d => D0 c d.1 d.2)
    (B := fun d => D1 c d.1 d.2) Q (fun d l k => by
      unfold ambient
      iintro ⟨⟨#HR, -⟩, HO, HD⟩
      iapply (run_sig u K c d.1 d.2 k Q (l.map (fun d => (false, d)) ++ copies))
      isplitr; · iexact HR
      isplitl [HO]; · iexact HO
      iexact HD) _ order) $$ [HO HD]
  · isplitr; · iexact HR
    isplitl [HO]; · iexact HO
    iexact HD
  iintro ⟨HO, HD⟩
  -- the packing
  iapply (run_each c packStep (R := ambient u K) (S := fun _ => uPts u c) (A := fun d => D1 c d.1 d.2)
    (B := fun d => D2 u c d.1 d.2) Q (fun d l k => by
      iintro ⟨-, Hu, HD⟩
      iapply (run_pack u c d.1 d.2 k Q)
      isplitl [Hu] <;> iassumption) _ order) $$ [Hu HD]
  · isplitr; · iexact HR
    isplitl [Hu]; · iexact Hu
    iexact HD
  iintro ⟨Hu, HD⟩
  -- the waits for the neighbours
  iapply (run_each c (waitStep c) (R := ambient u K) (S := fun l => iprop(owing c copies ∗ waiting c l)) (A := fun d => iprop(emp))
    (B := fun d => iprop(emp)) Q (fun d l k => by
      unfold ambient
      iintro ⟨⟨#HR, #Hlev⟩, ⟨HO, Hw⟩, -⟩ Hk
      iapply (run_wait u K c d.1 d.2 k Q l) $$ [HO Hw]
      · isplitr; · iexact HR
        isplitr; · iexact Hlev
        isplitl [HO] <;> iassumption
      iintro H
      iapply Hk
      isplitl [H]; · iexact H
      iempintro) _ order) $$ [HO Hw]
  · isplitr; · iexact HR
    isplitl [HO Hw]
    · isplitl [HO]; · iexact HO
      iexact Hw
    iapply (nothing order)
    iempintro
  iintro ⟨⟨HO, Hw⟩, -⟩
  icases (all_waited c) $$ Hw with ⟨Hat, Hp⟩
  ihave HD := (got_slots u c) $$ [HD Hp]
  · isplitl [HD] <;> iassumption
  -- the copies
  iapply (run_each c (sendStep c) (R := ambient u K) (S := fun l => owing c (l.map (fun d => (true, d)))) (A := fun d => D3 u c d.1 d.2)
    (B := fun d => D4 c d.1 d.2) Q (fun d l k => by
      unfold ambient
      iintro ⟨⟨#HR, -⟩, HO, HD⟩
      iapply (run_send u K c d.1 d.2 k Q (l.map fun d => (true, d)))
      isplitr; · iexact HR
      isplitl [HO]; · iexact HO
      iexact HD) _ order) $$ [HO HD]
  · isplitr; · iexact HR
    isplitl [HO]; · iexact HO
    iexact HD
  iintro ⟨HO, HD⟩
  -- the stencil on the block
  iapply (run_core u c _ Q f) $$ [Hu Ho]
  · isplitl [Hu] <;> iassumption
  iintro ⟨Hu, Ho⟩
  -- the faces that arrive
  iapply (run_each c (recvStep c) (R := ambient u K)
    (S := fun l => iprop(owing c [] ∗ ∃ f, ⌜addAll u c f l = addAll u c (k0_pay10 (u c)) order⌝ ∗ oPts c f)) (A := fun d => D4 c d.1 d.2)
    (B := fun d => D5 c d.1 d.2) Q (fun d l k => by
      unfold ambient
      iintro ⟨⟨#HR, -⟩, ⟨HO, %f, %hf, Ho⟩, HD⟩ Hk
      iapply (run_recv u K c d.1 d.2 k Q f) $$ [HO Ho HD]
      · isplitr; · iexact HR
        isplitl [HO]; · iexact HO
        isplitl [HD] <;> iassumption
      iintro ⟨HO, HD, Ho⟩
      iapply Hk
      isplitr [HD]
      · isplitl [HO]; · iexact HO
        iexists (addNb u c d.1 d.2 f)
        isplitr; · ipureintro; exact hf
        iexact Ho
      iexact HD) _ order) $$ [HO Ho HD]
  · isplitr; · iexact HR
    isplitr [HD]
    · isplitl [HO]; · iexact HO
      iexists _
      isplitr [Ho]; rotate_left; · iexact Ho
      ipureintro; rfl
    iexact HD
  iintro ⟨⟨HO, %g, %hg, Ho⟩, HD⟩
  -- the faces of the domain
  iapply (run_each c (zeroStep c) (R := ambient u K)
    (S := fun l => iprop(∃ f, ⌜zeroAll c f l = outOf u c⌝ ∗ oPts c f)) (A := fun d => iprop(emp))
    (B := fun d => iprop(emp)) Q (fun d l k => by
      iintro ⟨-, ⟨%f, %hf, Ho⟩, -⟩ Hk
      iapply (run_zero c d.1 d.2 k Q f) $$ Ho
      iintro Ho
      iapply Hk
      isplitl [Ho]
      · iexists (zeroEnd c d.1 d.2 f)
        isplitr; · ipureintro; exact hf
        iexact Ho
      iempintro) _ order) $$ [Ho]
  · isplitr; · iexact HR
    isplitl [Ho]
    · iexists g
      isplitr; · ipureintro; unfold outOf; rw [← hg]; rfl
      iexact Ho
    iapply (nothing order)
    iempintro
  iintro ⟨⟨%g', %hg', Ho⟩, -⟩
  -- the copies have left
  iapply (run_each c (doneStep c) (R := ambient u K) (S := fun _ => owing c []) (A := fun d => D5 c d.1 d.2)
    (B := fun d => D6 c d.1 d.2) Q (fun d l k => by
      unfold ambient
      iintro ⟨⟨#HR, -⟩, HO, HD⟩
      iapply (run_done u K c d.1 d.2 k Q)
      isplitr; · iexact HR
      isplitl [HO] <;> iassumption) _ order) $$ [HO HD]
  · isplitr; · iexact HR
    isplitl [HO]; · iexact HO
    iexact HD
  iintro ⟨HO, HD⟩
  unfold runs
  rw [show (pure ⟨⟩ : PK F PUnit) = .ret ⟨⟩ from rfl, wp_ret]
  imod (close_cell u K c none 1 (duties_later u _)) $$ [Hat] with Hz
  · isplitr; · unfold ambient; icases HR with ⟨#HR', -⟩; iexact HR'
    iexact Hat
  imodintro
  iapply Hk
  isplitl [HO]; · iexact HO
  isplitl [Hz]; · iexact Hz
  isplitl [HD]; · iexact HD
  isplitl [Hu]; · iexact Hu
  rw [show outOf u c = g' from hg'.symm]
  iexact Ho

end Cert.Halo

end
-- ==== Proof.Slots.lean ====
/-
The scratch buffers as pairs of slots: a buffer of two faces, held whole, is its two slots held apart,
and back.
-/
module

public import proofs.«01_k».proof.Proof.Body
public import Idealize.ShloMosaic.Lib.Ring
public import Idealize.ShloMosaic.Lib.ViewIndex

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Fin 3)

/-- The slot of a position in a two-face buffer, and the slot's first coordinate. -/
theorem mem_slot (s : Bool) (i : (bufS a).Idx) : i ∈ (slotR a s).set ↔ (i (0 : Fin 4)).val = if s then 1 else 0 := by
  rw [Rect.mem_set_unit]
  constructor
  · intro h
    have h0 := h (0 : Fin 4)
    have hz : slotZ a 0 = 1 := (by decide : ∀ a, slotZ a 0 = 1) a
    cases s
    · have h1 : (i (0 : Fin 4)).val < 0 + slotZ a 0 := h0.2
      rw [hz] at h1
      rw [if_neg (by decide)]; omega
    · have h1 : (i (0 : Fin 4)).val < 1 + slotZ a 0 := h0.2
      have h2 : 1 ≤ (i (0 : Fin 4)).val := h0.1
      rw [hz] at h1
      rw [if_pos rfl]; omega
  · intro h k
    have hk := (i k).isLt
    have hz : ∀ (a : Fin 3) (s : Bool) (k : Fin 4), k = 0 ∨ (slotO s k = 0 ∧ slotZ a k = bufZ a k) := by decide
    have ho : ∀ (a : Fin 3) (s : Bool), slotO s 0 = (if s then 1 else 0) ∧ slotZ a 0 = 1 := by decide
    rcases hz a s k with rfl | ⟨h1, h2⟩
    · obtain ⟨h1, h2⟩ := ho a s
      constructor
      · show slotO s 0 ≤ _
        rw [h1, h]
      · show _ < slotO s 0 + slotZ a 0
        rw [h1, h2, h]; exact Nat.lt_succ_self _
    · constructor
      · show slotO s k ≤ _
        rw [h1]; exact Nat.zero_le _
      · show _ < slotO s k + slotZ a k
        rw [h1, h2, Nat.zero_add]; exact hk

section Pair
variable (M : Memref sig .tc .vmem (bufS a) .f32) (hM : M.view.set = Finset.univ)

/-- The elements of a slot. -/
abbrev slotI (s : Bool) : Finset M.view.ty.Idx := ((M.slice (slotR a s) (fun _ => rfl)).squeeze (faceS a) (squeezes a)).view.set

/-- The two slots of a buffer have no element in common. -/
theorem slots_apart (s s' : Bool) (h : s ≠ s') : Disjoint (slotI a M s) (slotI a M s') := by
  unfold slotI
  rw [slot_set, slot_set]
  refine View.disjoint_slice (Finset.disjoint_left.mpr fun i hi hi' => h ?_)
  have h1 := (mem_slot a s i).mp hi
  have h2 := (mem_slot a s' i).mp hi'
  cases s <;> cases s' <;> first | rfl | (simp at h1 h2; omega)

include hM in
/-- The two slots make up the buffer. -/
theorem slots_all : Finset.univ.biUnion (slotI a M) = Finset.univ := by
  refine Finset.eq_univ_iff_forall.mpr fun i => ?_
  have hi : i ∈ M.view.set := by rw [hM]; exact Finset.mem_univ i
  obtain ⟨x, -, rfl⟩ := Finset.mem_map.mp hi
  have hx : (x (0 : Fin 4)).val < 2 := by
    have := (x (0 : Fin 4)).isLt
    have hz : bufZ a 0 = 2 := (by decide : ∀ a, bufZ a 0 = 2) a
    exact lt_of_lt_of_eq this hz
  refine Finset.mem_biUnion.mpr ⟨decide ((x (0 : Fin 4)).val = 1), Finset.mem_univ _, ?_⟩
  unfold slotI
  rw [slot_set, View.set_slice]
  refine Finset.mem_map_of_mem _ ((mem_slot a _ x).mpr ?_)
  by_cases h : (x (0 : Fin 4)).val = 1
  · rw [if_pos (decide_eq_true h), h]
  · rw [if_neg (by simp [h])]; omega

omit [FloatOps F] in
/-- A function of a slot, for both slots. -/
theorem both (Φ : Bool → sProp 𝕄) : bigSep Finset.univ Φ = iprop(Φ false ∗ Φ true) :=
  bigSep_univ_eq_bigSepL [false, true] (by decide) (by decide) Φ

include hM in
omit [FloatOps F] in
/-- A whole buffer is its two slots; -/
theorem to_slots (c : Dev nD) : (iprop(∃ f : Buf (Elt F) (M.view.loc (c : Thread nD τ)), (M.view.loc (c : Thread nD τ)) ↦{fullShare} f) : sProp 𝕄)
    ⊢ bigSep Finset.univ fun s => iprop(∃ f : Buf (Elt F) (M.view.loc (c : Thread nD τ)), (M.view.loc (c : Thread nD τ)) ↦[slotI a M s]{fullShare} f) := by
  iintro ⟨%f, H⟩
  ihave H := (Entails.of_eq (Ring.pointsTo_blocks (ℓ := M.view.loc (c : Thread nD τ)) (slotI a M) (slots_apart a M) (slots_all a M hM) f)) $$ H
  have hm : (bigSep Finset.univ fun s => (M.view.loc (c : Thread nD τ)) ↦[slotI a M s]{fullShare} f : sProp 𝕄)
      ⊢ bigSep Finset.univ fun s => iprop(∃ f : Buf (Elt F) (M.view.loc (c : Thread nD τ)), (M.view.loc (c : Thread nD τ)) ↦[slotI a M s]{fullShare} f) :=
    bigSep_mono fun s _ => BIClass.exists_intro (Φ := fun f : Buf (Elt F) (M.view.loc (c : Thread nD τ)) => ((M.view.loc (c : Thread nD τ)) ↦[slotI a M s]{fullShare} f : sProp 𝕄)) f
  iapply hm
  iexact H

include hM in
omit [FloatOps F] in
/-- and back. -/
theorem of_slots (c : Dev nD) (f₀ : Buf (Elt F) (M.view.loc (c : Thread nD τ))) :
    (bigSep Finset.univ fun s => iprop(∃ f : Buf (Elt F) (M.view.loc (c : Thread nD τ)), (M.view.loc (c : Thread nD τ)) ↦[slotI a M s]{fullShare} f) : sProp 𝕄)
      ⊢ iprop(∃ f : Buf (Elt F) (M.view.loc (c : Thread nD τ)), (M.view.loc (c : Thread nD τ)) ↦{fullShare} f) :=
  Ring.pointsTo_blocks_join_exists (ℓ := M.view.loc (c : Thread nD τ)) (slotI a M) (slots_apart a M) (slots_all a M hM) f₀

end Pair

/-- A send buffer's view is all of it. -/
theorem sb_whole : ∀ a : Fin 3, (sbM a).view.set = Finset.univ
  | 0 => View.set_whole _ | 1 => View.set_whole _ | 2 => View.set_whole _
/-- A receive buffer's view is all of it. -/
theorem rb_whole : ∀ a : Fin 3, (rbM a).view.set = Finset.univ
  | 0 => View.set_whole _ | 1 => View.set_whole _ | 2 => View.set_whole _

omit [FloatOps F] in
/-- All slots of a device, send and receive, one by one. -/
theorem slots_list (c : Dev nD) : (iprop((bigSep Finset.univ fun a : Fin 3 => bigSep Finset.univ fun s => srcAny (F := F) c a s)
      ∗ bigSep Finset.univ fun a : Fin 3 => bigSep Finset.univ fun s => landAny (F := F) c a s) : sProp 𝕄)
    = iprop((bigSep Finset.univ fun d : Dir => srcAny c d.1 d.2) ∗ bigSep Finset.univ fun d : Dir => landAny c d.1 d.2) := by
  rw [bigSep_univ_prod (fun d : Dir => srcAny (F := F) c d.1 d.2), bigSep_univ_prod (fun d : Dir => landAny (F := F) c d.1 d.2)]

omit [FloatOps F] in
/-- One thing per axis. -/
theorem three (Φ : Fin 3 → sProp 𝕄) : bigSep Finset.univ Φ = iprop(Φ 0 ∗ Φ 1 ∗ Φ 2) :=
  bigSep_univ_eq_bigSepL [0, 1, 2] (by decide) (by decide) Φ

/-- A device's scratch buffers are its twelve slots; -/
theorem scratch_slots (c : Dev nD) : (Pipeline.scopedRest cfg0.spec c : sProp 𝕄)
    ⊢ iprop((bigSep Finset.univ fun d : Dir => srcAny c d.1 d.2) ∗ bigSep Finset.univ fun d : Dir => landAny c d.1 d.2) := by
  rw [scopedRest0_eq, ← slots_list, three, three]
  iintro ⟨H0, H1, H2, H3, H4, H5⟩
  isplitl [H0 H1 H2]
  · isplitl [H0]; · iapply (to_slots 0 (sbM 0) (sb_whole 0) c); iexact H0
    isplitl [H1]; · iapply (to_slots 1 (sbM 1) (sb_whole 1) c); iexact H1
    iapply (to_slots 2 (sbM 2) (sb_whole 2) c); iexact H2
  · isplitl [H3]; · iapply (to_slots 0 (rbM 0) (rb_whole 0) c); iexact H3
    isplitl [H4]; · iapply (to_slots 1 (rbM 1) (rb_whole 1) c); iexact H4
    iapply (to_slots 2 (rbM 2) (rb_whole 2) c); iexact H5

/-- and back. -/
theorem slots_scratch (c : Dev nD) : iprop((bigSep Finset.univ fun d : Dir => srcAny c d.1 d.2) ∗ bigSep Finset.univ fun d : Dir => landAny c d.1 d.2)
    ⊢ (Pipeline.scopedRest cfg0.spec c : sProp 𝕄) := by
  rw [scopedRest0_eq, ← slots_list, three, three]
  iintro ⟨⟨H0, H1, H2⟩, H3, H4, H5⟩
  isplitl [H0]; · iapply (of_slots 0 (sbM 0) (sb_whole 0) c (fun _ => Scalar.ofBits .f32 0x00000000#32)); iexact H0
  isplitl [H1]; · iapply (of_slots 1 (sbM 1) (sb_whole 1) c (fun _ => Scalar.ofBits .f32 0x00000000#32)); iexact H1
  isplitl [H2]; · iapply (of_slots 2 (sbM 2) (sb_whole 2) c (fun _ => Scalar.ofBits .f32 0x00000000#32)); iexact H2
  isplitl [H3]; · iapply (of_slots 0 (rbM 0) (rb_whole 0) c (fun _ => Scalar.ofBits .f32 0x00000000#32)); iexact H3
  isplitl [H4]; · iapply (of_slots 1 (rbM 1) (rb_whole 1) c (fun _ => Scalar.ofBits .f32 0x00000000#32)); iexact H4
  iapply (of_slots 2 (rbM 2) (rb_whole 2) c (fun _ => Scalar.ofBits .f32 0x00000000#32)); iexact H5

end Cert.Halo

end
-- ==== Proof.Ghost.lean ====
/-
What the launch hands out: the cells' records, the duty tokens dealt to the devices that do the duties,
and the credit each device may take.
-/
module

public import proofs.«01_k».proof.Proof.Slots
public import proofs.«01_k».proof.Proof.Gen.KernelIdeal.Launch
public import proofs.«01_k».proof.Proof.Gen.KernelIdeal.Points

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (u : Dev nD → Vec F S16x16x16 .f32)

/-! ## Families over the kinds of semaphore -/

/-- Every kind of semaphore but the barrier is a send or a receive semaphore. -/
theorem kinds_univ : (Finset.univ.erase none : Finset Kind) = Finset.univ.map Function.Embedding.some := by decide +kernel

omit [FloatOps F] in
/-- One thing per semaphore of a device: the barrier's, the send semaphores', the receive semaphores'. -/
theorem by_kind (Φ : Kind → sProp 𝕄) : bigSep Finset.univ Φ
    = iprop(Φ none ∗ (bigSep Finset.univ fun d : Dir => Φ (some (false, d))) ∗ bigSep Finset.univ fun d : Dir => Φ (some (true, d))) := by
  rw [bigSep_univ_at Φ none, kinds_univ, bigSep_map, bigSep_univ_prod, both]
  rfl

omit [FloatOps F] in
/-- Anything may be dropped. -/
theorem drop (P : sProp 𝕄) : P ⊢ iprop(emp) := by
  iintro -
  iempintro

/-! ## Tokens -/

/-- Different devices or kinds have different cells. -/
theorem qcell_inj : Function.Injective fun ck : Dev nD × Kind => qcell ck.1 ck.2 := by
  rintro ⟨c, k⟩ ⟨c', k'⟩ h
  have h1 : c = c' := congrArg (fun g : GSem nD τ sig => g.1.1) h
  have h2 : k = k' := qsem_inj (congrArg Prod.snd h)
  rw [h1, h2]

/-- The cells of the exchange. -/
def haloCells : Finset (GSem nD τ sig) := Finset.univ.map ⟨_, qcell_inj⟩

/-- A token's name: the device and semaphore, the round, the duty. There is one for each direction of the
    barrier, and one for each send and receive semaphore. -/
def tokOf (x : Dev nD × Option Bool × Dir) : GSem nD τ sig × ℕ × Dir :=
  match x.2.1 with
  | none => (barCell x.1, 0, x.2.2)
  | some b => (qcell x.1 (some (b, x.2.2)), 0, d₀)

/-- Different duties have different tokens. -/
theorem tokOf_inj : Function.Injective tokOf := by
  rintro ⟨c, b, d⟩ ⟨c', b', d'⟩ h
  have hc : c = c' := by
    have := congrArg (fun x : GSem nD τ sig × ℕ × Dir => x.1.1.1) h
    rcases b with _ | b <;> rcases b' with _ | b' <;> exact this
  have hs := congrArg (fun x : GSem nD τ sig × ℕ × Dir => x.1.2) h
  have hd := congrArg (fun x : GSem nD τ sig × ℕ × Dir => x.2.2) h
  subst hc
  rcases b with _ | b <;> rcases b' with _ | b'
  · have : d = d' := hd
    rw [this]
  · exact absurd (qsem_inj (a₁ := none) (a₂ := some (b', d')) hs) (fun h => by cases h)
  · exact absurd (qsem_inj (a₁ := some (b, d)) (a₂ := none) hs) (fun h => by cases h)
  · have := qsem_inj (a₁ := some (b, d)) (a₂ := some (b', d')) hs
    simp only [Option.some.injEq, Prod.mk.injEq] at this
    rw [this.1, this.2]

/-- All the tokens of the exchange. -/
def haloToks : Finset (GSem nD τ sig × ℕ × Dir) := Finset.univ.map ⟨tokOf, tokOf_inj⟩

/-- The launch's share and the exchange's. -/
def u₀ : UU :=
  (initOf (Pipeline.cells cfgs cellOf_inj) (Pipeline.launchToks cfgs cellOf_inj), initOf haloCells haloToks)

/-- The tokens of a device's own cells. -/
def ownToks (c : Dev nD) : sProp 𝕄 :=
  iprop((bigSep Finset.univ fun d : Dir => dutyTok ER (barCell c) 0 d)
    ∗ (bigSep Finset.univ fun d : Dir => dutyTok ER (sendCell c d.1 d.2) 0 d₀)
    ∗ bigSep Finset.univ fun d : Dir => dutyTok ER (recvCell c d.1 d.2) 0 d₀)

/-- The tokens of the duties a device does towards a direction. -/
def dirToks (c : Dev nD) (d : Dir) : sProp 𝕄 :=
  if has c d.1 d.2 then iprop(tokB c d.1 d.2 ∗ tokS c d.1 d.2 ∗ tokR c d.1 d.2) else iprop(emp)

/-- A device and a direction, and the neighbour with the direction back. -/
def across (x : Dev nD × Dir) : Dev nD × Dir := if has x.1 x.2.1 x.2.2 then (nb x.1 x.2.1 x.2.2, x.2.1, !x.2.2) else x

/-- Going across twice comes back. -/
theorem across_across : Function.Involutive across := by
  rintro ⟨c, a, s⟩
  by_cases h : has c a s
  · have h1 : across (c, a, s) = (nb c a s, a, !s) := if_pos h
    rw [h1]
    have h2 : across (nb c a s, a, !s) = (nb (nb c a s) a (!s), a, !(!s)) := if_pos (has_nb c a s h)
    rw [h2, nb_nb c a s h, Bool.not_not]
  · have h1 : across (c, a, s) = (c, a, s) := if_neg h
    rw [h1, h1]

omit [FloatOps F] in
/-- The tokens dealt to the devices that do the duties. -/
theorem toks_dealt : (bigSep Finset.univ fun c : Dev nD => (ownToks c : sProp 𝕄)) ⊢ bigSep Finset.univ fun c : Dev nD => bigSep Finset.univ fun d : Dir => dirToks c d := by
  unfold ownToks
  rw [bigSep_sep', bigSep_sep',
    ← bigSep_univ_prod (fun x : Dev nD × Dir => (dutyTok ER (barCell x.1) 0 x.2 : sProp 𝕄)),
    ← bigSep_univ_prod (fun x : Dev nD × Dir => (dutyTok ER (sendCell x.1 x.2.1 x.2.2) 0 d₀ : sProp 𝕄)),
    ← bigSep_univ_prod (fun x : Dev nD × Dir => (dutyTok ER (recvCell x.1 x.2.1 x.2.2) 0 d₀ : sProp 𝕄)),
    ← bigSep_univ_prod (fun x : Dev nD × Dir => (dirToks x.1 x.2 : sProp 𝕄)),
    bigSep_univ_equiv (across_across.toPerm across) (fun x : Dev nD × Dir => (dutyTok ER (barCell x.1) 0 x.2 : sProp 𝕄)),
    bigSep_univ_equiv (across_across.toPerm across) (fun x : Dev nD × Dir => (dutyTok ER (recvCell x.1 x.2.1 x.2.2) 0 d₀ : sProp 𝕄)),
    ← bigSep_sep', ← bigSep_sep']
  refine bigSep_mono fun x _ => ?_
  obtain ⟨c, a, s⟩ := x
  unfold dirToks
  by_cases h : has c a s
  · rw [if_pos h]
    have e : across_across.toPerm across (c, a, s) = (nb c a s, a, !s) := if_pos h
    rw [e]
    unfold tokB tokS tokR
    exact BI.Entails.refl _
  · rw [if_neg h]
    exact drop _

/-! ## The ghost state -/

/-- What the launch element deals a device. -/
def G (c : Dev nD) : sProp 𝕄 :=
  iprop((bigSep Finset.univ fun k : Kind => roundState ER (haloRd u) (qcell c k) 0)
    ∗ (bigSep Finset.univ fun k : Kind => iprop(atPos ER (qcell c k) 0 ∅ 0 ∗ reached ER (qcell c k) 0)) ∗ ownToks c)

/-- Where a device stands on its semaphores, and the tokens of its duties. -/
def stand (c : Dev nD) : sProp 𝕄 :=
  iprop((bigSep Finset.univ fun k : Kind => atPos ER (qcell c k) 0 ∅ 0) ∗ bigSep Finset.univ fun d : Dir => dirToks c d)

/-- What a device gets in the end. -/
def G' (c : Dev nD) : sProp 𝕄 := iprop(∃ K, records u K ∗ stand c)

omit [FloatOps F] in
/-- From the exchange's share of the ghost state each device gets its cells' rounds, its places in them and its own tokens. -/
theorem fund_halo : BI.own (ER (initOf haloCells haloToks)) ⊢ (|==> bigSep Finset.univ (G u) : sProp 𝕄) := by
  have hX (Φ : GSem nD τ sig → sProp 𝕄) : bigSep haloCells Φ = bigSep Finset.univ fun c : Dev nD => bigSep Finset.univ fun k : Kind => Φ (qcell c k) := by
    unfold haloCells; rw [bigSep_map, bigSep_univ_prod]; rfl
  have hT : bigSep haloToks (fun x => (dutyTok ER x.1 x.2.1 x.2.2 : sProp 𝕄)) = bigSep Finset.univ fun c : Dev nD => ownToks c := by
    unfold haloToks; rw [bigSep_map, bigSep_univ_prod]
    refine bigSep_congr fun c _ => ?_
    unfold ownToks
    rw [bigSep_univ_prod, bigSep_univ_eq_bigSepL [none, some false, some true] (by decide) (by decide)]
    rfl
  iintro HX
  imod (Rounds.fund ER (haloRd u) haloCells haloToks) $$ HX with ⟨Hst, Hr, Hat, Htok⟩
  imodintro
  ihave Hst' := (Entails.of_eq (hX fun g => roundState ER (haloRd u) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: those of the directions. -/
abbrev osem (x : Bool × Dir) : SemLoc sig := qsem (some x)

/-- The send and receive semaphores are different and belong to the kernel alone. -/
theorem ownSemFacts : Pipeline.OwnSemFacts cfg0.spec osem := by decide +kernel

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barQ] (by decide) (by decide)]; rfl

omit [FloatOps F] in
/-- A device's counters at zero, by kind. -/
theorem sems_by_kind (c : Dev nD) :
    (iprop(Pipeline.ownSems0 (Ix := Unit) (Name := ℕ) (U := UU) (Lvl := ℕ) (Val := Elt F) (τ := τ) osem c ∗ unscopedSems0 c) : sProp 𝕄)
      = bigSep Finset.univ fun k : Kind => semVal (qcell c k) 0 := by
  rw [unscopedSems0_eq, bigSep_univ_at _ none, kinds_univ, bigSep_map]
  exact BI.Entails.antisymm BI.sep_comm BI.sep_comm

omit [FloatOps F] in
/-- A device's cells put under their invariants. -/
theorem core_alloc (c : Dev nD) :
    iprop(Pipeline.ownSems0 (Ix := Unit) (Name := ℕ) (U := UU) (Lvl := ℕ) (Val := Elt F) (τ := τ) osem c ∗ unscopedSems0 c ∗ G u c)
      ⊢ |={Set.univ}=> iprop((bigSep Finset.univ fun k => iprop(∃ κ : ℕ, cellInv ER (haloRd u) κ (qcell c k)))
          ∗ (bigSep Finset.univ fun k => iprop(atPos ER (qcell c k) 0 ∅ 0 ∗ reached ER (qcell c k) 0)) ∗ ownToks c) := by
  unfold G
  iintro ⟨Hos, Hus, Hst, Hat, Htok⟩
  ihave Hv := (Entails.of_eq (sems_by_kind (F := F) c)) $$ [Hos Hus]
  · isplitl [Hos] <;> iassumption
  imod (show iprop((bigSep Finset.univ fun k : Kind => semVal (qcell c k) 0) ∗ bigSep Finset.univ fun k : Kind => roundState ER (haloRd u) (qcell c k) 0)
      ⊢ (|={Set.univ}=> bigSep Finset.univ fun k => iprop(∃ κ : ℕ, cellInv ER (haloRd u) κ (qcell c k)) : sProp 𝕄) from by
        rw [← bigSep_sep']
        exact (bigSep_mono fun k _ => (Rounds.body_intro ER (haloRd u) (qcell c k)).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- What holds for good, handed to every device. -/
theorem to_each {I : Type} [DecidableEq I] {S : Finset I} {R : sProp 𝕄} [BI.Persistent R] (Φ : I → sProp 𝕄) :
    iprop(R ∗ bigSep S Φ) ⊢ bigSep S fun i => iprop(R ∗ Φ i) := by
  rw [bigSep_sep']
  exact sep_mono_left (BI.bigSep_of_persistent S R)

omit [FloatOps F] in
/-- With the cells' invariants in place, the tokens are dealt out to the devices which pay with them. -/
theorem regroup :
    (bigSep Finset.univ fun c : Dev nD => iprop((bigSep Finset.univ fun k => iprop(∃ κ : ℕ, cellInv ER (haloRd u) κ (qcell c k)))
          ∗ (bigSep Finset.univ fun k => iprop(atPos ER (qcell c k) 0 ∅ 0 ∗ reached ER (qcell c k) 0)) ∗ ownToks c) : sProp 𝕄)
      ⊢ bigSep Finset.univ (G' u) := by
  rw [bigSep_sep', bigSep_sep', ← bigSep_univ_prod (fun ck : Dev nD × Kind => iprop(∃ κ : ℕ, cellInv ER (haloRd u) κ (qcell ck.1 ck.2))),
    bigSep_congr (s := Finset.univ) (fun (c : Dev nD) _ => bigSep_sep' Finset.univ (fun k : Kind => (atPos ER (qcell c k) 0 ∅ 0 : sProp 𝕄)) (fun k => reached ER (qcell c k) 0)),
    bigSep_sep', ← bigSep_univ_prod (fun ck : Dev nD × Kind => (reached ER (qcell ck.1 ck.2) 0 : sProp 𝕄))]
  iintro ⟨HI, ⟨Hat, #HR⟩, Htok⟩
  ihave HK := (BI.bigSep_exists_pi Finset.univ (fun (ck : Dev nD × Kind) (κ : ℕ) => (cellInv ER (haloRd u) κ (qcell ck.1 ck.2) : sProp 𝕄))) $$ HI
  icases HK with ⟨%K, #HI⟩
  ihave Htk := (toks_dealt (F := F)) $$ Htok
  iapply ((to_each (R := records u K) stand).trans (bigSep_mono fun c _ => show _ ⊢ G' u c from
    BIClass.exists_intro (Φ := fun K => iprop(records u K ∗ stand c)) K))
  isplitr
  · unfold records; isplitl; · iexact HI
    iexact HR
  · iapply (Entails.of_eq (show iprop((bigSep Finset.univ fun c : Dev nD => bigSep Finset.univ fun k : Kind => (atPos ER (qcell c k) 0 ∅ 0 : sProp 𝕄))
        ∗ bigSep Finset.univ fun c : Dev nD => bigSep Finset.univ fun d : Dir => dirToks c d) = bigSep Finset.univ (stand (F := F)) from by
      rw [← bigSep_sep']; rfl))
    isplitl [Hat]; · iexact Hat
    iexact Htk

omit [FloatOps F] in
/-- Every device's own and unscoped semaphores at once put under invariants, the tokens dealt. -/
theorem glob : (bigSep Finset.univ fun c => iprop(Pipeline.ownSems0 (Ix := Unit) (Name := ℕ) (U := UU) (Lvl := ℕ) (Val := Elt F) (τ := τ) osem c ∗ unscopedSems0 c ∗ G u c) : sProp 𝕄)
    ⊢ |={Set.univ}=> bigSep Finset.univ (G' u) :=
  ((bigSep_mono fun c _ => core_alloc u c).trans (bigSep_fupd _ _)).trans (BI.fupd_mono (regroup u))

/-! ## The launch credit -/

/-- What a device owes at the start. -/
abbrev owed₀ (c : Dev nD) : CellTallies nD τ sig Unit := owed c signals

/-- What a list owes to a cell is the sum of what its entries owe to it. -/
theorem owed_sum (c : Dev nD) (g : GSem nD τ sig) : ∀ l : List (Bool × Dir), owed c l g () = (l.map fun x => due c x g ()).sum
  | [] => rfl
  | x :: l => by
    unfold owed
    rw [Pi.add_apply, Finsupp.add_apply, owed_sum c g l, List.map_cons, List.sum_cons, Nat.add_comm]

/-- Whether what a device owes towards a direction is owed to device `c`'s semaphore of kind `k`. -/
def dueTo (d : Dev nD) (x : Bool × Dir) (c : Dev nD) (k : Kind) : Prop :=
  has d x.2.1 x.2.2 ∧ nb d x.2.1 x.2.2 = c ∧ k = (if x.1 then some (true, x.2.1, !x.2.2) else none)

instance (d : Dev nD) (x : Bool × Dir) (c : Dev nD) (k : Kind) : Decidable (dueTo d x c k) := by unfold dueTo; infer_instance

/-- An entry owes a cell one amount of the cell's kind if it is due there, and nothing otherwise. -/
theorem due_at (d : Dev nD) (x : Bool × Dir) (c : Dev nD) (k : Kind) :
    due d x (qcell c k) () = (if dueTo d x c k then 1 else 0) * amountOf k := by
  obtain ⟨b, a, s⟩ := x
  unfold due
  by_cases h : has d a s
  · dsimp only
    rw [if_pos h]
    have key : ∀ (k' : Kind) (n : ℕ), n = amountOf k' → (k' = if b then some (true, a, !s) else none) →
        (tallyAt (qcell (nb d a s) k') () n : CellTallies nD τ sig Unit) (qcell c k) () = (if dueTo d (b, a, s) c k then 1 else 0) * amountOf k := by
      intro k' n hn hk'
      rw [tallyAt_apply]
      by_cases hq : nb d a s = c ∧ k = k'
      · obtain ⟨rfl, rfl⟩ := hq
        rw [if_pos ⟨rfl, rfl⟩, if_pos ⟨h, rfl, hk'⟩, Nat.one_mul, hn]
      · rw [if_neg (fun h' => hq (by
          have := qcell_inj (a₁ := (c, k)) (a₂ := (nb d a s, k')) h'.1
          simp only [Prod.mk.injEq] at this
          exact ⟨this.1.symm, this.2⟩)), if_neg (fun h' => hq ⟨h'.2.1, h'.2.2.trans hk'.symm⟩), Nat.zero_mul]
    cases b
    · rw [if_neg (by decide)]; exact key none 1 rfl rfl
    · rw [if_pos rfl]; exact key (some (true, a, !s)) (credit a) rfl rfl
  · dsimp only
    rw [if_neg h, if_neg (fun h' => h h'.1), Nat.zero_mul]
    rfl

/-- How many units, in amounts of its kind, all devices owe a semaphore. -/
def dues (c : Dev nD) (k : Kind) : ℕ := ∑ d : Dev nD, (signals.map fun x => if dueTo d x c k then 1 else 0).sum

/-- A barrier cell is owed one unit by each neighbour. -/
theorem dues_bar : ∀ c : Dev nD, dues c none = left c order := by decide +kernel
/-- A receive cell towards a neighbour is owed one copy. -/
theorem dues_recv : ∀ (c : Dev nD) (a : Fin 3) (s : Bool), has c a s → dues c (some (true, a, s)) = 1 := by decide +kernel

omit [FloatOps F] in
/-- What all devices owe to a cell at the launch is what the cell's owner may take from it. -/
theorem launch_at (c : Dev nD) (k : Kind) :
    tallyOn (qcell c k) (launchCredit (Pipeline.owing owed₀) 0 (qcell c k)) = (tallyAt (qcell c k) () (dues c k * amountOf k) : CellTallies nD τ sig Unit) := by
  unfold tallyAt; refine congrArg _ (Finsupp.ext fun i => ?_); cases i
  rw [Pipeline.launchCredit_owing, Finsupp.single_eq_same]
  unfold dues
  rw [Finset.sum_mul]
  refine Finset.sum_congr rfl fun d _ => ?_
  rw [owed_sum, ← List.sum_map_mul_right]
  exact congrArg List.sum (List.map_congr_left fun x _ => due_at d x c k)

omit [FloatOps F] in
/-- The credit of a device: a unit per neighbour on its barrier, a face per neighbour on the receive semaphores. -/
theorem creds (c : Dev nD) : (Pipeline.launchCred owed₀ c : sProp 𝕄)
    ⊢ iprop(cred (tallyAt (barCell c) () (left c order)) ∗ bigSep Finset.univ fun d : Dir => if has c d.1 d.2 then credR c d.1 d.2 else iprop(emp)) := by
  unfold Pipeline.launchCred
  refine (bigSep_subset (Finset.subset_univ (Finset.univ.map ⟨qsem, qsem_inj⟩))).trans ?_
  rw [bigSep_map, by_kind]
  refine BIBase.Entails.trans (BIClass.sep_mono ?_ ((BIClass.sep_mono (drop _) (bigSep_mono fun d _ => ?_)).trans BI.emp_sep_elim))
    (Entails.of_eq rfl)
  · exact Entails.of_eq (congrArg cred (show tallyOn (qcell c none) (launchCredit (Pipeline.owing owed₀) 0 (qcell c none)) = (tallyAt (barCell c) () (left c order) : CellTallies nD τ sig Unit) from by
      rw [launch_at, dues_bar]; exact congrArg _ (Nat.mul_one _)))
  · obtain ⟨a, s⟩ := d
    refine BIBase.Entails.trans (Entails.of_eq (congrArg cred (launch_at c (some (true, a, s))))) ?_
    dsimp only
    by_cases h : has c a s
    · rw [if_pos h, dues_recv c a s h, Nat.one_mul]
      exact BIBase.Entails.rfl
    · rw [if_neg h]
      exact drop _

end Cert.Halo

end
-- ==== Proof.Run.lean ====
/-
The run of the ideal kernel on all devices: what the launch needs of the body, and what every execution
ends in, for any float values.
-/
module

public import proofs.«01_k».proof.Proof.Ghost
public import Idealize.ShloMosaic.Lib.Pipeline.CollectiveSegs

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (ρ : Dev nD → PrngReg)

/-- The state of the machine at the start: any memory, every counter at zero. -/
def s₀ : MemSt nD τ sig (Elt F) := ⟨m, fun _ => 0, ρ⟩

/-- The kernel has one grid point. -/
theorem cfg0_N : cfg0.N = 1 := by decide
/-- The one grid point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- A device's block of the argument, as staged in. -/
def uOf (c : Dev nD) : Vec F S16x16x16 .f32 := (win0_0.blk (0 : Fin 1)).view.read (Elt F) ((s₀ m ρ).mem ((c : Thread nD τ).loc main_arg0))

/-- What a device starts from, its slots apart; -/
def start (c : Dev nD) : sProp 𝕄 :=
  iprop(G' (uOf m ρ) c ∗ levAts L lv ∗ cred (tallyAt (barCell c) () (left c order))
    ∗ bigSep Finset.univ fun d : Dir => if has c d.1 d.2 then credR c d.1 d.2 else iprop(emp))
/-- with the slots; -/
def Φ₀ (c : Dev nD) : sProp 𝕄 := iprop(start m ρ c ∗ (bigSep Finset.univ fun d : Dir => srcAny c d.1 d.2) ∗ bigSep Finset.univ fun d : Dir => landAny c d.1 d.2)
/-- what it ends with. -/
def Φ₁ (c : Dev nD) : sProp 𝕄 := iprop(semVal (barCell c) 0 ∗ bigSep Finset.univ fun d : Dir => D6 c d.1 d.2)

/-- The launch's data: the arrays, what the staging buffers hold after the body, what the body starts from
    and leaves. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => uOf m ρ c
    | ⟨1, _⟩ => outOf (uOf m ρ) c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

omit [FloatOps F] in
/-- One thing per window: the argument's and the result's. -/
theorem windows (Φ : Fin cfg0.W → sProp 𝕄) : bigSep Finset.univ Φ = iprop(Φ (0 : Fin 2) ∗ Φ (1 : Fin 2)) := bigSep_W0 Φ

omit [FloatOps F] in
/-- Owning a whole buffer with given contents is owning it at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

omit [FloatOps F] in
/-- What a device holds for each direction at the start. -/
theorem start_dirs (c : Dev nD) :
    iprop(stand c ∗ (bigSep Finset.univ fun d : Dir => if has c d.1 d.2 then credR c d.1 d.2 else iprop(emp))
        ∗ (bigSep Finset.univ fun d : Dir => srcAny (F := F) c d.1 d.2) ∗ bigSep Finset.univ fun d : Dir => landAny (F := F) c d.1 d.2)
      ⊢ iprop(atPos ER (barCell c) 0 ∅ 0 ∗ bigSep Finset.univ fun d : Dir => D0 c d.1 d.2) := by
  have h : ∀ d : Dir, iprop(dirToks (F := F) c d ∗ (if has c d.1 d.2 then credR c d.1 d.2 else iprop(emp)) ∗ srcAny c d.1 d.2 ∗ landAny c d.1 d.2
      ∗ posS c d.1 d.2 ∗ posR c d.1 d.2) ⊢ D0 c d.1 d.2 := fun d => by
    unfold dirToks D0
    by_cases h : has c d.1 d.2
    · rw [if_pos h, if_pos h, if_pos h]
      iintro ⟨⟨HB, HS, HR⟩, HC, Hs, Hl, HpS, HpR⟩
      isplitl [HB HS HR HC]
      · isplitl [HB]; · iexact HB
        isplitl [HS]; · iexact HS
        isplitl [HR] <;> iassumption
      isplitl [Hl]; · iexact Hl
      isplitl [Hs]; · iexact Hs
      isplitl [HpS] <;> iassumption
    · rw [if_neg h, if_neg h, if_neg h]
      iintro ⟨-, -, Hs, Hl, HpS, HpR⟩
      isplitr; · iempintro
      isplitl [Hl]; · iexact Hl
      isplitl [Hs]; · iexact Hs
      isplitl [HpS] <;> iassumption
  unfold stand
  rw [by_kind]
  iintro ⟨⟨⟨Hb, HpS, HpR⟩, Ht⟩, Hc, Hs, Hl⟩
  isplitl [Hb]; · iexact Hb
  iapply (show (iprop((bigSep Finset.univ fun d : Dir => dirToks (F := F) c d) ∗ (bigSep Finset.univ fun d : Dir => if has c d.1 d.2 then credR (F := F) c d.1 d.2 else iprop(emp))
      ∗ (bigSep Finset.univ fun d : Dir => srcAny (F := F) c d.1 d.2) ∗ (bigSep Finset.univ fun d : Dir => landAny (F := F) c d.1 d.2)
      ∗ (bigSep Finset.univ fun d : Dir => posS (F := F) c d.1 d.2) ∗ bigSep Finset.univ fun d : Dir => posR (F := F) c d.1 d.2) : sProp 𝕄)
      ⊢ bigSep Finset.univ fun d : Dir => D0 c d.1 d.2 from by
    rw [← bigSep_sep', ← bigSep_sep', ← bigSep_sep', ← bigSep_sep', ← bigSep_sep']
    exact bigSep_mono fun d _ => h d)
  isplitl [Ht]; · iexact Ht
  isplitl [Hc]; · iexact Hc
  isplitl [Hs]; · iexact Hs
  isplitl [Hl]; · iexact Hl
  isplitl [HpS]; · iexact HpS
  iexact HpR

omit [FloatOps F] in
/-- A device that has signalled nothing yet waits for every neighbour. -/
theorem start_waiting (c : Dev nD) : iprop(cred (tallyAt (barCell c) () (left c order)) ∗ atPos ER (barCell c) 0 ∅ 0) ⊢ (waiting c order : sProp 𝕄) := by
  unfold waiting
  rw [if_neg (left_order_pos c)]
  iintro ⟨Hc, Hp⟩
  iexists 0
  iexists ∅
  isplitr; · ipureintro; exact ⟨(Nat.zero_add _).trans (left_order c), Finset.empty_subset _⟩
  isplitl [Hc]; · iexact Hc
  isplitl [Hp]; · iexact Hp
  rw [bigSep_empty]
  iempintro

/-- A staging buffer with given contents. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What a device has before the body. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What a device has after the body. -/
def bodyPost (c : Dev nD) : sProp 𝕄 :=
  iprop(Φ₁ c ∗ (dats m ρ 0 c).owesAt () t₀.succ ∗ stg c cc0_stg0_0 (uOf m ρ c) ∗ stg c cc0_stg1_0 (outOf (uOf m ρ) c))

/-- Before the body the staged argument is the device's block. -/
theorem before_in (c : Dev nD) (d) : (dats m ρ 0 c).before (0 : Fin 2) t₀ d = uOf m ρ c := by
  unfold Dat.before; rw [if_pos (fetch0_0 t₀)]; rfl

set_option maxRecDepth 4000 in
/-- The body from the launch's hands to the launch's hands. -/
theorem sound_body (c : Dev nD) : bodyPre m ρ c ⊢ wp frame (wpE (defs₀ (F := F)) 𝒱₀ (c : Thread nD τ) none) Set.univ
    (onArgs (cc0_body (F := F))) (fun _ => bodyPost m ρ c) := by
  rw [body_eq]
  simp only [Prog.lift, Prog.bind_op, Prog.bind_ret, bind, Prog.bind]
  rw [wp_deviceId]
  unfold bodyPre Φ₀ start G' Dat.owesAt Pipeline.owesWithin stg
  iintro ⟨⟨⟨⟨%K, #HR, Hst⟩, #Hlev, Hc, Hcr⟩, Hsrc, Hland⟩, ⟨%W, -, HO⟩, ⟨%d, %f, %hf, Hu⟩, ⟨%d', %f', -, Ho⟩⟩
  rw [before_in] at hf
  subst hf
  ihave H := (start_dirs (F := F) c) $$ [Hst Hcr Hsrc Hland]
  · isplitl [Hst]; · iexact Hst
    isplitl [Hcr]; · iexact Hcr
    isplitl [Hsrc] <;> iassumption
  icases H with ⟨Hp, HD⟩
  ihave Hw := (start_waiting (F := F) c) $$ [Hc Hp]
  · isplitl [Hc] <;> iassumption
  iapply (run_steps (uOf m ρ) K c f' (fun _ => bodyPost m ρ c)) $$ [HO Hw HD Hu Ho]
  · unfold ambient
    isplitr
    · isplitr; · iexact HR
      iexact Hlev
    isplitl [HO]
    · unfold owing
      iexists W
      iexact HO
    isplitl [Hw]; · iexact Hw
    isplitl [HD]; · iexact HD
    isplitl [Hu]; · unfold uPts; iexact Hu
    unfold oPts; iexact Ho
  iintro ⟨HO, Hz, HD, Hu, Ho⟩
  unfold bodyPost Φ₁ Dat.owesAt Pipeline.owesWithin stg owing uPts oPts
  icases HO with ⟨%W', HO⟩
  isplitl [Hz HD]
  · isplitl [Hz] <;> iassumption
  isplitl [HO]
  · iexists W'
    isplitr; · ipureintro; exact fun _ _ => Or.inl trivial
    iexact HO
  isplitl [Hu]
  · iexists _; isplitr; · (ipureintro; rfl)
    iexact Hu
  iexists _; isplitr; · (ipureintro; rfl)
  iexact Ho

set_option maxRecDepth 4000 in
/-- What the launch asks of the body. -/
theorem body_obligation (c : Dev nD) : BodyObligation (dats (F := F) m ρ 0 c) (defs₀ (F := F)) 𝒱₀ () Set.univ := fun t => by
  rw [fin_N t]
  rw [windows, windows]
  simp only [owns_whole_eq]
  exact sound_body m ρ c

/-! ## The side conditions of the launch -/

/-- Every window's array is held whole. -/
theorem share_eq (c : Dev nD) (w : Fin cfg0.W) : (dats m ρ 0 c).share w = fullShare := by unfold Dat.share; split <;> rfl

/-- The launch's hands give what a device starts with. -/
theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (uOf m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1] <;> iassumption
  · iempintro

/-- With its scratch buffers, cut into slots, a device is ready for the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_slots (F := F) c)
  iexact Hr

/-- After the body a device gives back its semaphores at zero and its scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁ D6 Pipeline.ownSems0
  rw [bigSep_sep', bigSep_sep', bigSep_sep',
    bigSep_univ_prod (fun k : Bool × Dir => (semVal ((c : Thread nD τ), osem k) 0 : sProp 𝕄)), both]
  iintro ⟨HzB, Hl, Hs, HzS, HzR⟩
  isplitl [HzB]; · iexact HzB
  isplitl [HzS HzR]
  · isplitl [HzS] <;> iassumption
  iapply (slots_scratch (F := F) c)
  isplitl [Hs] <;> iassumption

/-- A semaphore outside the exchange has no kind. -/
theorem kindOf_none (sm : SemLoc sig) (h : ∀ k, qsem k ≠ sm) : kindOf sm = none := by
  unfold kindOf
  exact dif_neg fun ⟨k, hk⟩ => h k hk

omit [FloatOps F] in
/-- A wait for staging is below everything owed. -/
theorem mayWait_stage (c : Dev nD) (sm : SemLoc sig) (h : ∀ k, qsem k ≠ sm) (l : List (Bool × Dir)) : (levAts L lv : sProp 𝕄) ⊢ MayWait (c : Thread nD τ) sm () (owed c l) :=
  mayWait_of_lt c sm l 0 (by unfold lv; rw [kindOf_none sm h]; exact Nat.le_refl 0) (fun x _ => by split <;> decide)

/-- The launch's own waits for staging are allowed. -/
theorem waits (c : Dev nD) : (levAts L lv : sProp 𝕄) ⊢ Pipeline.cellsWaits cfgs (dats m ρ) () 0 c :=
  Pipeline.cellsWaits_intro cfgs (dats m ρ) () 0 c fun w s t => by
    have h : ∀ k, qsem k ≠ SemLoc.dma (((cfgs 0).win w).sem s) := by
      revert w s
      decide +kernel
    rcases t with ⟨_ | _, ht⟩
    · exact mayWait_stage c _ h signals
    · exact mayWait_stage c _ h []

/-! ## The run -/

/-- What the arrays hold in the end. -/
def finalA (c : Dev nD) (w : Fin cfg0.W) : Buf (Elt F) ((cfg0.win w).arr.view.loc (c : Thread nD τ)) := (dats m ρ 0 c).arrAt w cfg0.N

/-- In the end every array holds what was computed for it. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every execution of the program on the whole mesh ends, with each device's arrays as computed and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (uOf m ρ)) (G' := G' (uOf m ρ)) (u₀ := u₀)
    (hu₀ := by
      unfold u₀
      iintro Hu
      ihave H := (ownU_pair _ _) $$ Hu
      icases H with ⟨HP, HX⟩
      imod (fund_halo (uOf m ρ)) $$ HX with HG
      imodintro
      isplitl [HP] <;> iassumption)
    (hglob := glob (uOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds what it held. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.Halo

end
-- ==== Proof.Ends.lean ====
/-
What the run leaves: each device's argument as it was, and its result the kernel's function of all the
devices' blocks. The same for the program as it was printed at bit patterns, whose text is the same.
-/
module

public import proofs.«01_k».proof.Proof.Run
public import proofs.«01_k».proof.Proof.Gen.Kernel.Launch

@[expose] public section

noncomputable section

namespace Cert.Halo

open Cert.KernelIdeal Cert.KernelIdeal.Gen
open Idealize.ShloMosaic Idealize.ShloMosaic.TcCoe Idealize.SL.Sem

variable {F : FTy → Type} [FloatOps F]
variable (m : (l : Loc nD τ sig) → Buf (Elt F) l) (ρ : Dev nD → PrngReg)

/-- The blocks the devices start with. -/
def blocks (c : Dev nD) : Vec F S16x16x16 .f32 := m ((c : Thread nD τ).loc main_arg0)

/-- What is staged in is the argument. -/
theorem uOf_eq (c : Dev nD) : uOf m ρ c = blocks m c :=
  Memref.read_access_unit_zero (Elt F) main_arg0 (off := fun a => win0_0.index (0 : Fin 1) a * main_arg0.ty.shape.size a)
    (funext fun a => by fin_cases a <;> decide) (fun a => by fin_cases a <;> decide) _

/-- What is written back, read through the block, is the kernel's result; -/
theorem read_result (c : Dev nD) : (win0_1.blk (0 : Fin 1)).view.read (Elt F) (finalA m ρ c (1 : Fin 2)) = outOf (uOf m ρ) c := by
  unfold finalA
  rw [show cfg0.N = ((0 : Fin 1) : Fin cfg0.N).val + 1 from rfl, (dats m ρ 0 c).arrAt_succ (1 : Fin 2) (0 : Fin 1),
    if_pos (flush0_1 (0 : Fin 1))]
  exact View.read_write_univ _ _

/-- and the block is the whole array. -/
theorem result_eq (c : Dev nD) : finalA m ρ c (1 : Fin 2) = outOf (blocks m) c := by
  rw [← funext (uOf_eq m ρ), ← read_result]
  exact (Memref.read_access_unit_zero (Elt F) main_v1 (off := fun a => win0_1.index (0 : Fin 1) a * main_v1.ty.shape.size a)
    (funext fun a => by fin_cases a <;> decide) (fun a => by fin_cases a <;> decide) _).symm

/-- Every execution ends, with each device's result computed, its argument as it was, and every counter at zero. -/
theorem run_ends : θ_run defs (onTc (τ := τ) (main (F := F))) ⟨m, fun _ => 0, ρ⟩ fun r =>
    (∀ c : Dev nD, r.2.mem ((c : Thread nD τ).loc main_v1) = outOf (blocks m) c
      ∧ r.2.mem ((c : Thread nD τ).loc main_arg0) = m ((c : Thread nD τ).loc main_arg0)) ∧ r.2.sem = fun _ => 0 :=
  (θ_run _ _ _).mono (fun _ h => ⟨fun c => ⟨(h.1 c (1 : Fin 2)).trans (result_eq m ρ c), (h.1 c (0 : Fin 2)).trans (finalA_arg m ρ c)⟩, h.2⟩)
    (run_main m ρ)

/-! ## The program printed at bit patterns -/

set_option maxRecDepth 65536 in
/-- The two printed programs have one text: their bodies are the same, -/
theorem body_same : Cert.Kernel.defs₀ (F := F) = Cert.KernelIdeal.defs₀ (F := F) := by
  funext p l a
  cases p with
  | tc =>
    match l, a with
    | ⟨0, _⟩, (t, s) => rfl
    | ⟨_ + 1, h⟩, _ => exact absurd h (Nat.not_lt.2 (Nat.le_add_left _ _))
  | _ => rfl

set_option maxRecDepth 65536 in
/-- and so their tables of bodies. -/
theorem defs_same : Cert.Kernel.defs (F := F) = Cert.KernelIdeal.defs (F := F) :=
  congrArg (Pipeline.defs (Cert.KernelIdeal.pcfgs (F := F))) body_same

set_option maxRecDepth 65536 in
/-- So the printed program runs as its idealization does. -/
theorem run_printed (m : (l : Loc Cert.Kernel.nD Cert.Kernel.τ Cert.Kernel.sig) → Buf (Elt F) l) (ρ : Dev Cert.Kernel.nD → PrngReg) :
    θ_run (Cert.Kernel.defs (F := F)) (onTc (τ := Cert.Kernel.τ) (Cert.Kernel.main (F := F))) ⟨m, fun _ => 0, ρ⟩ fun r =>
      (∀ c : Dev Cert.Kernel.nD, r.2.mem ((c : Thread Cert.Kernel.nD Cert.Kernel.τ).loc Cert.Kernel.main_arg0)
        = m ((c : Thread Cert.Kernel.nD Cert.Kernel.τ).loc Cert.Kernel.main_arg0)) ∧ r.2.sem = fun _ => 0 := by
  rw [defs_same]
  exact (θ_run _ _ _).mono (fun _ h => ⟨fun c => (h.1 c).2, h.2⟩) (run_ends (F := F) m ρ)

end Cert.Halo

end
-- ==== Proof.Cells.lean ====
/-
The kernel's result cell by cell, over the extended reals: what each step of the kernel does at one
cell of the block.

An array is read at a position, a number for each axis; off the array it reads 0.
-/
module

public import proofs.«01_k».proof.Proof.Body
public import Idealize.ShloMosaic.Lib.KernelVsHost

@[expose] public section

noncomputable section

namespace Cert.Halo

open Cert.KernelIdeal Cert.KernelIdeal.Gen
open Idealize.ShloMosaic Idealize.ShloMosaic.TcCoe Idealize.SL.Sem

/-! ## Positions -/

/-- An array read at a position. -/
def at3 {d : Fin 3 → ℕ} (f : (⟨3, d⟩ : Shape).Idx → EReal) (p : Fin 3 → ℕ) : EReal :=
  if h : ∀ b, p b < d b then f (fun b => ⟨p b, h b⟩) else 0

/-- The position of an index. -/
def pos {d : Fin 3 → ℕ} (i : (⟨3, d⟩ : Shape).Idx) : Fin 3 → ℕ := fun b => (i b).val

/-- Reading an array at a position agrees with reading it at an index with those coordinates. -/
theorem at3_of {d : Fin 3 → ℕ} (f : (⟨3, d⟩ : Shape).Idx → EReal) (p : Fin 3 → ℕ) (i : (⟨3, d⟩ : Shape).Idx) (h : ∀ b, (i b).val = p b) :
    at3 f p = f i := by
  have h' : ∀ b, p b < d b := fun b => (h b) ▸ (i b).isLt
  unfold at3
  rw [dif_pos h']
  exact congrArg f (funext fun b => Fin.ext (h b).symm)

/-- The position next to another, on side `s` of axis `a`. -/
def beside (a : Fin 3) (s : Bool) (p : Fin 3 → ℕ) : Fin 3 → ℕ := fun b => if b = a then (if s then p b + 1 else p b - 1) else p b

/-- A block has sixteen cells along each axis. -/
theorem size16 : ∀ b : Fin 3, (![16, 16, 16] : Fin 3 → ℕ) b = 16 := by decide

/-- A coordinate of a block's cell is below sixteen. -/
theorem lt16 (i : S16x16x16.Idx) (b : Fin 3) : (i b).val < 16 := (size16 b) ▸ (i b).isLt

/-- A cell on the face on side `s` of axis `a`. -/
def onFace (a : Fin 3) (s : Bool) (i : S16x16x16.Idx) : Prop := (i a).val = if s then 15 else 0

instance (a : Fin 3) (s : Bool) (i : S16x16x16.Idx) : Decidable (onFace a s i) := by unfold onFace; infer_instance

/-- A face is one cell thick along its own axis and sixteen cells long along the others. -/
theorem faceZ_eq : ∀ a b : Fin 3, faceZ a b = if b = a then 1 else 16 := by decide
/-- The far face of an axis begins at fifteen along that axis; every other offset is zero. -/
theorem faceO_eq : ∀ (a : Fin 3) (s : Bool) (b : Fin 3), faceO a s b = if b = a then (if s then 15 else 0) else 0 := by decide

/-- A cell of a face, in the face's own coordinates. -/
def inFace (a : Fin 3) (i : S16x16x16.Idx) : (faceS a).Idx := fun b =>
  ⟨if b = a then 0 else (i b).val, by
    show _ < faceZ a b
    rw [faceZ_eq]
    split
    · exact Nat.one_pos
    · exact lt16 i b⟩

/-- The coordinates in the block of a face's cell: those of the cell, with the face's own along its axis. -/
theorem faceR_val (a : Fin 3) (s : Bool) (i : S16x16x16.Idx) (b : Fin 3) :
    ((faceR a s).toLoadRect.idx (inFace a i) b).val = if b = a then (if s then 15 else 0) else (i b).val := by
  show faceO a s b + 1 * (if b = a then 0 else (i b).val) = _
  rw [faceO_eq]
  split <;> simp

/-- A cell on a face is the block's cell at its own coordinates in the face. -/
theorem faceR_inFace (a : Fin 3) (s : Bool) (i : S16x16x16.Idx) (h : onFace a s i) : (faceR a s).toLoadRect.idx (inFace a i) = i := by
  funext b
  apply Fin.ext
  rw [faceR_val]
  split
  · next hb => subst hb; exact h.symm
  · rfl

/-- A cell which a store to a face reaches lies on that face. -/
theorem onFace_of_mem (a : Fin 3) (s : Bool) (i : S16x16x16.Idx) (h : i ∈ (oM.access (faceR a s)).setOn Finset.univ) : onFace a s i := by
  obtain ⟨x, -, rfl⟩ := Finset.mem_map.mp h
  show faceO a s a + 1 * (x a).val = _
  have hx : (x a).val < 1 := by
    have h1 : (x a).val < faceZ a a := (x a).isLt
    rw [faceZ_eq, if_pos rfl] at h1
    exact h1
  rw [faceO_eq, if_pos rfl]
  omega

/-! ## Faces replaced, faces added, faces zeroed -/

/-- A face replaced, at a cell. -/
theorem setFace_at (a : Fin 3) (s : Bool) (f : Vec Ideal S16x16x16 .f32) (v : Vec Ideal (faceS a) .f32) (i : S16x16x16.Idx) :
    setFace a s f v i = if onFace a s i then v (inFace a i) else f i := by
  unfold setFace
  split
  · next h =>
    have hw := View.write_emb_of_mem (Val := Elt Ideal) (v := oM.access (faceR a s)) f v (Finset.mem_univ (inFace a i))
    have he : (oM.access (faceR a s)).emb (inFace a i) = i := faceR_inFace a s i h
    rw [he] at hw
    exact hw
  · next h => exact View.write_of_not_mem (Val := Elt Ideal) f v _ fun hm => h (onFace_of_mem a s i hm)

variable (u : Dev nD → Vec Ideal S16x16x16 .f32) (c : Dev nD)

/-- Across a face: the position in the neighbour's block. -/
def farPos (a : Fin 3) (s : Bool) (i : S16x16x16.Idx) : Fin 3 → ℕ := fun b => if b = a then (if s then 0 else 15) else (i b).val

/-- What a neighbour adds to a cell. -/
def halo (a : Fin 3) (s : Bool) (i : S16x16x16.Idx) : EReal :=
  if has c a s ∧ onFace a s i then at3 (u (nb c a s)) (farPos a s i) else 0

/-- Adding a neighbour's face adds to each cell what that neighbour has for it. -/
theorem addNb_at (a : Fin 3) (s : Bool) (f : Vec Ideal S16x16x16 .f32) (i : S16x16x16.Idx) :
    addNb u c a s f i = (f i + halo u c a s i : EReal) := by
  unfold addNb halo
  by_cases hh : has c a s
  · rw [if_pos hh, setFace_at]
    by_cases hf : onFace a s i
    · rw [if_pos hf, if_pos ⟨hh, hf⟩]
      have hg : getFace a s f (inFace a i) = f i := congrArg f (faceR_inFace a s i hf)
      have hn : faceOf u (nb c a s) a (!s) (inFace a i) = at3 (u (nb c a s)) (farPos a s i) :=
        (at3_of (u (nb c a s)) _ ((faceR a (!s)).toLoadRect.idx (inFace a i)) fun b => by
          rw [faceR_val]; unfold farPos; cases s <;> rfl).symm
      show (getFace a s f (inFace a i) + faceOf u (nb c a s) a (!s) (inFace a i) : EReal) = _
      rw [hg, hn]
    · rw [if_neg hf, if_neg fun h => hf h.2, add_zero]
  · rw [if_neg hh, if_neg fun h => hh h.1, add_zero]

/-- Adding the faces of a list of neighbours adds to each cell the sum of what they have for it. -/
theorem addAll_at (l : List Dir) (f : Vec Ideal S16x16x16 .f32) (i : S16x16x16.Idx) :
    addAll u c f l i = (f i + (l.map fun d => halo u c d.1 d.2 i).sum : EReal) := by
  induction l generalizing f with
  | nil => exact (add_zero (f i : EReal)).symm
  | cons d l ih =>
    show addAll u c (addNb u c d.1 d.2 f) l i = _
    rw [ih, addNb_at, List.map_cons, List.sum_cons, add_assoc]

/-- Every cell of a face of zeros is zero. -/
theorem zeroFace_at (a : Fin 3) (j : (faceS a).Idx) : (zeroFace a : Vec Ideal (faceS a) .f32) j = (0 : EReal) := Ideal.ofBits_zero_f32

/-- After the zeroing a cell is zero if it lies on a face of the domain, and is as before otherwise. -/
theorem zeroAll_at (l : List Dir) (f : Vec Ideal S16x16x16 .f32) (i : S16x16x16.Idx) :
    zeroAll c f l i = (if ∃ d ∈ l, ¬ has c d.1 d.2 ∧ onFace d.1 d.2 i then 0 else f i : EReal) := by
  induction l generalizing f with
  | nil => exact (if_neg (by simp)).symm
  | cons d l ih =>
    show zeroAll c (zeroEnd c d.1 d.2 f) l i = _
    rw [ih]
    have hz : zeroEnd c d.1 d.2 f i = (if ¬ has c d.1 d.2 ∧ onFace d.1 d.2 i then 0 else f i : EReal) := by
      unfold zeroEnd
      by_cases hh : has c d.1 d.2
      · rw [if_pos hh, if_neg fun h => h.1 hh]
      · rw [if_neg hh, setFace_at, zeroFace_at]
        simp only [hh, not_false_eq_true, true_and]
    rw [hz]
    simp only [List.exists_mem_cons_iff]
    by_cases h1 : ¬ has c d.1 d.2 ∧ onFace d.1 d.2 i
    · rw [if_pos h1, if_pos (Or.inl h1)]; exact ite_self _
    · rw [if_neg h1]; simp only [h1, false_or]

/-! ## The stencil on the block -/

/-- A block's neighbour of a cell: 0 beyond the block. -/
def inner (f : Vec Ideal S16x16x16 .f32) (a : Fin 3) (s : Bool) (i : S16x16x16.Idx) : EReal :=
  if onFace a s i then 0 else at3 f (beside a s (pos i))

/-- A plane of zeros before a block without its last plane: each cell's neighbour on the minus side. -/
theorem before_at (a : Fin 3) {d₁ d₂ off : Fin 3 → ℕ} (h₁ : ∀ b, d₁ b = if b = a then 1 else 16) (h₂ : ∀ b, d₂ b = if b = a then 15 else 16)
    (ho : ∀ b, off b = 0) (f : Vec Ideal S16x16x16 .f32) (z : (⟨3, d₁⟩ : Shape).Idx → EReal) (hz : ∀ j, z j = 0)
    (hs : S16x16x16.Slices off ⟨3, d₂⟩) (h : Shape.Concatenates [⟨3, d₁⟩, ⟨3, d₂⟩] S16x16x16 a) (i : S16x16x16.Idx) :
    concatenate S16x16x16 a [⟨⟨3, d₁⟩, z⟩, ⟨⟨3, d₂⟩, extractStridedSlice ⟨3, d₂⟩ off f hs⟩] h i = inner f a false i := by
  unfold inner
  by_cases hi : (i a).val = 0
  · rw [if_pos (show onFace a false i from hi),
      concatenate_pair_apply_left (t := S16x16x16) (s₁ := ⟨3, d₁⟩) (s₂ := ⟨3, d₂⟩) a z _ h i rfl (fun b => ⟨(i b).val, by
        show _ < d₁ b
        rw [h₁]
        split
        · next hb => subst hb; omega
        · exact lt16 i b⟩) (fun b => rfl)]
    exact hz _
  · have hb : ∀ b, (if b = a then (i b).val - 1 else (i b).val) < d₂ b := fun b => by
      have := lt16 i b
      rw [h₂]
      split
      · next e => subst e; omega
      · exact this
    rw [if_neg (show ¬ onFace a false i from hi),
      concatenate_pair_apply_right (t := S16x16x16) (s₁ := ⟨3, d₁⟩) (s₂ := ⟨3, d₂⟩) a z _ h i rfl rfl (fun b => ⟨_, hb b⟩)
        (fun b hne => if_neg (show ¬ b = a from hne)) (by
          show (if a = a then (i a).val - 1 else (i a).val) + d₁ a = (i a).val
          rw [h₁, if_pos rfl, if_pos rfl]; omega),
      extractStridedSlice_apply off f hs _ (fun b => ⟨(if b = a then (i b).val - 1 else (i b).val), by
        have := hb b; rw [h₂] at this; show _ < (![16, 16, 16] : Fin 3 → ℕ) b; rw [size16]; revert this; split <;> omega⟩)
        (fun b => by rw [ho, Nat.zero_add]; rfl)]
    exact (at3_of f _ _ fun b => by unfold beside pos; rfl).symm

/-- A block without its first plane before a plane of zeros: each cell's neighbour on the plus side. -/
theorem after_at (a : Fin 3) {d₁ d₂ off : Fin 3 → ℕ} (h₁ : ∀ b, d₁ b = if b = a then 1 else 16) (h₂ : ∀ b, d₂ b = if b = a then 15 else 16)
    (ho : ∀ b, off b = if b = a then 1 else 0) (f : Vec Ideal S16x16x16 .f32) (z : (⟨3, d₁⟩ : Shape).Idx → EReal) (hz : ∀ j, z j = 0)
    (hs : S16x16x16.Slices off ⟨3, d₂⟩) (h : Shape.Concatenates [⟨3, d₂⟩, ⟨3, d₁⟩] S16x16x16 a) (i : S16x16x16.Idx) :
    concatenate S16x16x16 a [⟨⟨3, d₂⟩, extractStridedSlice ⟨3, d₂⟩ off f hs⟩, ⟨⟨3, d₁⟩, z⟩] h i = inner f a true i := by
  unfold inner
  by_cases hi : (i a).val = 15
  · rw [if_pos (show onFace a true i from hi),
      concatenate_pair_apply_right (t := S16x16x16) (s₁ := ⟨3, d₂⟩) (s₂ := ⟨3, d₁⟩) a _ z h i rfl rfl (fun b => ⟨if b = a then 0 else (i b).val, by
        show _ < d₁ b
        rw [h₁]
        split
        · exact Nat.one_pos
        · exact lt16 i b⟩) (fun b hne => if_neg (show ¬ b = a from hne)) (by
          show (if a = a then 0 else (i a).val) + d₂ a = (i a).val
          rw [h₂, if_pos rfl, if_pos rfl]; omega)]
    exact hz _
  · have hb : ∀ b, (i b).val < d₂ b := fun b => by
      have := lt16 i b
      rw [h₂]
      split
      · next e => subst e; omega
      · exact this
    rw [if_neg (show ¬ onFace a true i from hi),
      concatenate_pair_apply_left (t := S16x16x16) (s₁ := ⟨3, d₂⟩) (s₂ := ⟨3, d₁⟩) a _ z h i rfl (fun b => ⟨_, hb b⟩) (fun b => rfl),
      extractStridedSlice_apply off f hs _ (fun b => ⟨(if b = a then (i b).val + 1 else (i b).val), by
        have := hb b; have := lt16 i b; rw [h₂] at *; show _ < (![16, 16, 16] : Fin 3 → ℕ) b; rw [size16]; split <;> simp_all <;> omega⟩)
        (fun b => by
          rw [ho]
          show (if b = a then (i b).val + 1 else (i b).val) = _ + (i b).val
          split <;> omega)]
    exact (at3_of f _ _ fun b => by unfold beside pos; rfl).symm

/-- Six times a cell, as both programs compute it. -/
def six (x : EReal) : EReal := Ideal.ofBits .f32 0x40C00000#32 * x

/-- The stencil on the block, at a cell. -/
theorem core_at (f : Vec Ideal S16x16x16 .f32) (i : S16x16x16.Idx) :
    k0_pay10 f i = (inner f 0 false i + inner f 0 true i + inner f 1 false i + inner f 1 true i + inner f 2 false i + inner f 2 true i
      - six (f i) : EReal) := by
  have hf : shapeCast S16x16x16 f Facts₀.shapeCasts_S16x16x16_S16x16x16 = f := shapeCast_self f _
  have hz : Ideal.ofBits .f32 0x00000000#32 = 0 := Ideal.ofBits_zero_f32
  refine congrArg₂ (fun x y : EReal => x - y) (congrArg₂ (fun x y : EReal => x + y) (congrArg₂ (fun x y : EReal => x + y)
    (congrArg₂ (fun x y : EReal => x + y) (congrArg₂ (fun x y : EReal => x + y) (congrArg₂ (fun x y : EReal => x + y)
      ?_ ?_) ?_) ?_) ?_) ?_) (congrArg (fun g : Vec Ideal S16x16x16 .f32 => six (g i)) hf)
  · exact (before_at 0 (by decide) (by decide) (by decide) _ _ (fun _ => hz) _ _ i).trans (congrArg (inner · 0 false i) hf)
  · exact (after_at 0 (by decide) (by decide) (by decide) _ _ (fun _ => hz) _ _ i).trans (congrArg (inner · 0 true i) hf)
  · exact (before_at 1 (by decide) (by decide) (by decide) _ _ (fun _ => hz) _ _ i).trans (congrArg (inner · 1 false i) hf)
  · exact (after_at 1 (by decide) (by decide) (by decide) _ _ (fun _ => hz) _ _ i).trans (congrArg (inner · 1 true i) hf)
  · exact (before_at 2 (by decide) (by decide) (by decide) _ _ (fun _ => hz) _ _ i).trans (congrArg (inner · 2 false i) hf)
  · exact (after_at 2 (by decide) (by decide) (by decide) _ _ (fun _ => hz) _ _ i).trans (congrArg (inner · 2 true i) hf)

/-- A cell on the boundary of the domain. -/
def edge (i : S16x16x16.Idx) : Prop := ∃ a s, ¬ has c a s ∧ onFace a s i

/-- The kernel's result at a cell on the boundary of the domain; -/
theorem outOf_edge (i : S16x16x16.Idx) (h : edge c i) : outOf u c i = (0 : EReal) := by
  unfold outOf
  rw [zeroAll_at, if_pos]
  obtain ⟨a, s, h⟩ := h
  exact ⟨(a, s), (by decide : ∀ (a : Fin 3) (s : Bool), (a, s) ∈ order) a s, h⟩

/-- and at any other: each neighbour is in the block or across a face, and the sums are one sum. -/
theorem outOf_at (i : S16x16x16.Idx) (h : ¬ edge c i) :
    outOf u c i = ((inner (u c) 0 false i + halo u c 0 false i) + (inner (u c) 0 true i + halo u c 0 true i)
      + (inner (u c) 1 false i + halo u c 1 false i) + (inner (u c) 1 true i + halo u c 1 true i)
      + (inner (u c) 2 false i + halo u c 2 false i) + (inner (u c) 2 true i + halo u c 2 true i) - six (u c i) : EReal) := by
  unfold outOf
  rw [zeroAll_at, if_neg fun ⟨d, _, hd⟩ => h ⟨d.1, d.2, hd⟩, addAll_at, core_at]
  simp only [order, List.map_cons, List.map_nil, List.sum_cons, List.sum_nil, sub_eq_add_neg]
  generalize -six (u c i) = k
  abel

end Cert.Halo

end
-- ==== Proof.Value.lean ====
/-
The reference's result cell by cell, and the two results compared: the kernel's blocks are the blocks of
the reference's array.
-/
module

public import proofs.«01_k».proof.Proof.Cells
public import proofs.«01_k».proof.Proof.Gen.ReferenceIdeal
public import Idealize.ShloMosaic.Lib.Layout

@[expose] public section

noncomputable section

namespace Cert.Halo

open Idealize.ShloMosaic Idealize.ShloMosaic.TcCoe Idealize.SL.Sem

/-! ## The reference -/

section Reference

open Cert.ReferenceIdeal Cert.ReferenceIdeal.Gen

/-- The reference's result, as its run leaves it. -/
def refOf (U : Vec Ideal S32x64x64 .f32) : Vec Ideal S32x64x64 .f32 :=
  pad (s := S30x62x62) S32x64x64 ![1, 1, 1] ![1, 1, 1] ![0, 0, 0]
    (subf (F := Ideal) (addf (addf (addf (addf (addf
      (extractStridedSlice S30x62x62 ![0, 1, 1] U Facts₀.slices_S32x64x64_S30x62x62_0_1_1)
      (extractStridedSlice S30x62x62 ![2, 1, 1] U Facts₀.slices_S32x64x64_S30x62x62_2_1_1))
      (extractStridedSlice S30x62x62 ![1, 0, 1] U Facts₀.slices_S32x64x64_S30x62x62_1_0_1))
      (extractStridedSlice S30x62x62 ![1, 2, 1] U Facts₀.slices_S32x64x64_S30x62x62_1_2_1))
      (extractStridedSlice S30x62x62 ![1, 1, 0] U Facts₀.slices_S32x64x64_S30x62x62_1_1_0))
      (extractStridedSlice S30x62x62 ![1, 1, 2] U Facts₀.slices_S32x64x64_S30x62x62_1_1_2))
      (mulf (broadcastInDim S30x62x62 ![] Facts₀.bcast_S_S30x62x62 (constant S_ .f32 0x40C00000#32))
        (extractStridedSlice S30x62x62 ![1, 1, 1] U Facts₀.slices_S32x64x64_S30x62x62_1_1_1)))
    (sitofp (F := Ideal) .f32 (constantI S_ 32 0#32)) Facts₀.pads_S30x62x62_S32x64x64_110_110_110 Facts₀.h_S_

/-- The whole array's extents. -/
def dom : Fin 3 → ℕ := ![32, 64, 64]

/-- A position off the boundary of the domain. -/
def inside (p : Fin 3 → ℕ) : Prop := ∀ b, 0 < p b ∧ p b + 1 < dom b

/-- The inner part of the whole array is two cells shorter along each axis. -/
theorem inner_size : ∀ b : Fin 3, (![30, 62, 62] : Fin 3 → ℕ) b + 2 = dom b := by decide

/-- A cell off the boundary, in the coordinates of the array without its boundary. -/
def inIdx (g : S32x64x64.Idx) (h : inside (pos g)) : S30x62x62.Idx := fun b =>
  ⟨(g b).val - 1, by
    have h1 : 0 < (g b).val ∧ (g b).val + 1 < dom b := h b
    have h2 := inner_size b
    show _ < (![30, 62, 62] : Fin 3 → ℕ) b
    omega⟩

/-- A slice of the reference, at a cell: the array at the slice's place. -/
theorem slice_at (U : Vec Ideal S32x64x64 .f32) (off : Fin 3 → ℕ) (hs : S32x64x64.Slices off S30x62x62) (g : S32x64x64.Idx)
    (h : inside (pos g)) (p : Fin 3 → ℕ) (hp : ∀ b, off b ≤ 2 ∧ p b + 1 = off b + (g b).val) :
    extractStridedSlice S30x62x62 off U hs (inIdx g h) = at3 U p := by
  have e : ∀ b, p b = off b + ((g b).val - 1) := fun b => by
    have h1 : 0 < (g b).val ∧ (g b).val + 1 < dom b := h b
    have := hp b
    omega
  have hlt : ∀ b, p b < dom b := fun b => by
    have h1 : 0 < (g b).val ∧ (g b).val + 1 < dom b := h b
    have := hp b
    omega
  rw [extractStridedSlice_apply off U hs _ (fun b => ⟨p b, hlt b⟩) e]
  exact (at3_of U p (fun b => ⟨p b, hlt b⟩) fun b => rfl).symm

/-- The offsets of the six neighbours' slices. -/
theorem beside_off (a : Fin 3) (s : Bool) (off : Fin 3 → ℕ) (ho : ∀ b, off b = if b = a then (if s then 2 else 0) else 1)
    (g : S32x64x64.Idx) (h : inside (pos g)) (b : Fin 3) : off b ≤ 2 ∧ beside a s (pos g) b + 1 = off b + (g b).val := by
  have h1 : 0 < (g b).val ∧ (g b).val + 1 < dom b := h b
  rw [ho]
  unfold beside pos
  cases s <;> by_cases e : b = a <;> simp [e] at h1 ⊢ <;> omega

/-- The reference's result at a cell off the boundary, -/
theorem refOf_inside (U : Vec Ideal S32x64x64 .f32) (g : S32x64x64.Idx) (h : inside (pos g)) :
    refOf U g = (at3 U (beside 0 false (pos g)) + at3 U (beside 0 true (pos g)) + at3 U (beside 1 false (pos g)) + at3 U (beside 1 true (pos g))
      + at3 U (beside 2 false (pos g)) + at3 U (beside 2 true (pos g)) - six (U g) : EReal) := by
  unfold refOf
  rw [pad_apply_of_inside (t := S32x64x64) _ _ _ _ _ _ _ g (inIdx g h) fun b => by
    have h1 : 0 < (g b).val ∧ (g b).val + 1 < dom b := h b
    have : ∀ b : Fin 3, (![1, 1, 1] : Fin 3 → ℕ) b = 1 ∧ (![0, 0, 0] : Fin 3 → ℕ) b = 0 := by decide
    show (g b).val = (![1, 1, 1] : Fin 3 → ℕ) b + ((g b).val - 1) * ((![0, 0, 0] : Fin 3 → ℕ) b + 1)
    rw [(this b).1, (this b).2]
    omega]
  refine congrArg₂ (fun x y : EReal => x - y) (congrArg₂ (fun x y : EReal => x + y) (congrArg₂ (fun x y : EReal => x + y)
    (congrArg₂ (fun x y : EReal => x + y) (congrArg₂ (fun x y : EReal => x + y) (congrArg₂ (fun x y : EReal => x + y)
      ?_ ?_) ?_) ?_) ?_) ?_) (congrArg six ?_)
  · exact slice_at U _ _ g h _ (beside_off 0 false _ (by decide) g h)
  · exact slice_at U _ _ g h _ (beside_off 0 true _ (by decide) g h)
  · exact slice_at U _ _ g h _ (beside_off 1 false _ (by decide) g h)
  · exact slice_at U _ _ g h _ (beside_off 1 true _ (by decide) g h)
  · exact slice_at U _ _ g h _ (beside_off 2 false _ (by decide) g h)
  · exact slice_at U _ _ g h _ (beside_off 2 true _ (by decide) g h)
  · refine (slice_at U _ _ g h (pos g) fun b => ?_).trans (at3_of U _ g fun b => rfl)
    have : ∀ b : Fin 3, (![1, 1, 1] : Fin 3 → ℕ) b = 1 := by decide
    rw [this b]
    exact ⟨by omega, Nat.add_comm _ _⟩

/-- and on the boundary. -/
theorem refOf_boundary (U : Vec Ideal S32x64x64 .f32) (g : S32x64x64.Idx) (h : ¬ inside (pos g)) : refOf U g = (0 : EReal) := by
  obtain ⟨b, hb⟩ := not_forall.mp h
  have hb' : ¬ (0 < (g b).val ∧ (g b).val + 1 < dom b) := hb
  unfold refOf
  rw [pad_apply_of_not_inside (t := S32x64x64) _ _ _ _ _ _ _ g b fun hin => hb' (by
    have h1 : (![1, 1, 1] : Fin 3 → ℕ) b ≤ (g b).val ∧ _ ∧ ((g b).val - (![1, 1, 1] : Fin 3 → ℕ) b) / ((![0, 0, 0] : Fin 3 → ℕ) b + 1) < (![30, 62, 62] : Fin 3 → ℕ) b := hin
    have : ∀ b : Fin 3, (![1, 1, 1] : Fin 3 → ℕ) b = 1 ∧ (![0, 0, 0] : Fin 3 → ℕ) b = 0 := by decide
    rw [(this b).1, (this b).2] at h1
    have h2 := inner_size b
    obtain ⟨h3, -, h4⟩ := h1
    omega)]
  exact sitofp_zero (φ := .f32)

end Reference

/-! ## The blocks -/

open Cert.KernelIdeal Cert.KernelIdeal.Gen

/-- A device's block of an array. -/
abbrev blockOf (c : Dev nD) (U : Vec Ideal Cert.ReferenceIdeal.S32x64x64 .f32) : Vec Ideal S16x16x16 .f32 :=
  Layout.blockN ⟨3, ![16, 16, 16]⟩ ⟨3, ![32, 64, 64]⟩ (Layout.meshBlock [2, 4, 4] ![[0], [1], [2]] c) U

/-- The index in the array of a cell of a device's block. -/
def cellOf (c : Dev nD) (i : S16x16x16.Idx) : Cert.ReferenceIdeal.S32x64x64.Idx :=
  (show Layout.TilesN ⟨3, ![16, 16, 16]⟩ ⟨3, ![32, 64, 64]⟩ _ by decide).idx (Layout.meshBlock [2, 4, 4] ![[0], [1], [2]] c) i

/-- The coordinates of a device's block in the array cut over the mesh are the device's own. -/
theorem mesh_co : ∀ (c : Dev nD) (b : Fin 3), ((Layout.meshBlock [2, 4, 4] ![[0], [1], [2]] c) b).val = co c b := by decide +kernel

/-- The coordinates in the whole array of a cell of a device's block. -/
theorem cellOf_val (c : Dev nD) (i : S16x16x16.Idx) (b : Fin 3) : (cellOf c i b).val = co c b * 16 + (i b).val := by
  show ((Layout.meshBlock [2, 4, 4] ![[0], [1], [2]] c) b).val * (![16, 16, 16] : Fin 3 → ℕ) b + (i b).val = _
  rw [mesh_co, size16]

/-- The whole array's extent is sixteen times the mesh's, along each axis. -/
theorem dom_eq : ∀ b : Fin 3, dom b = ext b * 16 := by decide
/-- A device's coordinate is below the mesh's extent. -/
theorem co_lt : ∀ (c : Dev nD) (b : Fin 3), co c b < ext b := by decide +kernel

/-- The coordinates of a neighbour. -/
theorem co_nb : ∀ (c : Dev nD) (a : Fin 3) (s : Bool), has c a s →
    ∀ b, co (nb c a s) b = if b = a then (if s then co c b + 1 else co c b - 1) else co c b := by decide +kernel

/-- A block read at a position is the array read at the position's place. -/
theorem at3_block (c : Dev nD) (U : Vec Ideal Cert.ReferenceIdeal.S32x64x64 .f32) (p q : Fin 3 → ℕ) (hp : ∀ b, p b < 16)
    (hq : ∀ b, q b = co c b * 16 + p b) : at3 (blockOf c U) p = at3 U q := by
  have hp' : ∀ b, p b < (![16, 16, 16] : Fin 3 → ℕ) b := fun b => by rw [size16]; exact hp b
  rw [at3_of (blockOf c U) p (fun b => ⟨p b, hp' b⟩) fun b => rfl]
  exact (at3_of U q (cellOf c fun b => ⟨p b, hp' b⟩) fun b => (cellOf_val c _ b).trans (hq b).symm).symm

/-- The boundary of the domain, from inside a block. -/
theorem edge_iff (c : Dev nD) (i : S16x16x16.Idx) : edge c i ↔ ¬ inside (pos (cellOf c i)) := by
  have key : ∀ a, ((¬ has c a false ∧ onFace a false i) ∨ (¬ has c a true ∧ onFace a true i))
      ↔ ¬ (0 < pos (cellOf c i) a ∧ pos (cellOf c i) a + 1 < dom a) := fun a => by
    unfold has onFace pos
    rw [cellOf_val, dom_eq]
    have h1 := lt16 i a
    have h2 := co_lt c a
    simp only [Bool.false_eq_true, if_false, if_true]
    omega
  constructor
  · rintro ⟨a, s, h⟩ hin
    exact (key a).mp (by cases s; exact .inl h; exact .inr h) (hin a)
  · intro h
    obtain ⟨a, ha⟩ := not_forall.mp h
    rcases (key a).mpr ha with h | h
    exacts [⟨a, false, h⟩, ⟨a, true, h⟩]

/-- A cell's neighbour, in the block or across its face, is the array's. -/
theorem neighbour (U : Vec Ideal Cert.ReferenceIdeal.S32x64x64 .f32) (c : Dev nD) (a : Fin 3) (s : Bool) (i : S16x16x16.Idx) (h : ¬ edge c i) :
    (inner (blockOf c U) a s i + halo (fun c => blockOf c U) c a s i : EReal) = at3 U (beside a s (pos (cellOf c i))) := by
  unfold inner halo
  by_cases hf : onFace a s i
  · have hh : has c a s := not_not.mp fun hn => h ⟨a, s, hn, hf⟩
    rw [if_pos hf, if_pos ⟨hh, hf⟩, zero_add]
    refine at3_block (nb c a s) U _ _ (fun b => ?_) fun b => ?_
    · unfold farPos
      have := lt16 i b
      split
      · split <;> omega
      · exact this
    · unfold farPos beside pos
      rw [co_nb c a s hh, cellOf_val]
      by_cases e : b = a
      · subst e
        unfold onFace at hf
        unfold has at hh
        cases s <;> simp only [Bool.false_eq_true, if_false, if_true] at hf hh ⊢ <;> omega
      · rw [if_neg e, if_neg e, if_neg e]
  · rw [if_neg hf, if_neg fun h => hf h.2, add_zero]
    have hi := lt16 i a
    unfold onFace at hf
    refine at3_block c U _ _ (fun b => ?_) fun b => ?_
    · unfold beside pos
      have := lt16 i b
      by_cases e : b = a
      · subst e
        cases s <;> simp only [Bool.false_eq_true, if_false, if_true] at hf ⊢ <;> omega
      · rw [if_neg e]; exact this
    · unfold beside pos
      rw [cellOf_val]
      by_cases e : b = a
      · subst e
        cases s <;> simp only [Bool.false_eq_true, if_false, if_true] at hf ⊢ <;> omega
      · rw [if_neg e, if_neg e]

/-- The kernel on the blocks of an array leaves the blocks of the reference's result. -/
theorem outOf_block (U : Vec Ideal Cert.ReferenceIdeal.S32x64x64 .f32) (c : Dev nD) :
    outOf (fun c => blockOf c U) c = blockOf c (refOf U) := by
  funext i
  show outOf (fun c => blockOf c U) c i = refOf U (cellOf c i)
  by_cases h : edge c i
  · rw [outOf_edge _ c i h, refOf_boundary U _ ((edge_iff c i).mp h)]
  · rw [outOf_at _ c i h, refOf_inside U _ (not_not.mp fun hn => h ((edge_iff c i).mpr hn))]
    simp only [neighbour U c _ _ i h]
    rfl

end Cert.Halo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ends
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The reference's run ends with its argument as it was; it has no semaphore. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The kernel's result on each device is that device's block of the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.Halo.refOf (m' (((0 : Dev Cert.ReferenceIdeal.nD).tc : Thread Cert.ReferenceIdeal.nD Cert.ReferenceIdeal.τ).loc Cert.ReferenceIdeal.main_arg0)), ?_, ?_⟩
  · have hb : Cert.Halo.blocks m = fun c => Cert.Halo.blockOf c
        (m' (((0 : Dev Cert.ReferenceIdeal.nD).tc : Thread Cert.ReferenceIdeal.nD Cert.ReferenceIdeal.τ).loc Cert.ReferenceIdeal.main_arg0)) := funext hargs
    refine (θ_run _ _ _).mono (fun _ h c => ⟨?_, (h.1 c).2⟩) (Cert.Halo.run_ends (F := Ideal) m g)
    refine (h.1 c).1.trans ?_
    rw [hb]
    exact Cert.Halo.outOf_block _ c
  · exact (θ_run _ _ _).mono (fun _ h => h 0) (Cert.ReferenceIdeal.Value.run (F := Ideal) m' g')

/-- All the claims: the three frames, the preservation and the equation with the reference. -/
theorem claim : Cert.Claim := ⟨Cert.Kernel.Gen.facts, Cert.KernelIdeal.Gen.facts, Cert.ReferenceIdeal.Gen.facts,
  fun m g _ => Cert.Halo.run_printed (F := Bits) m g,
  fun m g _ => (θ_run _ _ _).mono (fun _ h => ⟨fun c => (h.1 c).2, h.2⟩) (Cert.Halo.run_ends (F := Ideal) m g),
  frame_reference,
  trivial,
  algebraic⟩

end Cert.Proof

end
